-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_eps" .f32 0x41A00000#32 ((268435456 / 13421773 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v16)) (v3 : (c : Dev Cert.KernelIdeal.nD) → Buf (Elt Ideal) ((c.tc : Thread Cert.KernelIdeal.nD Cert.KernelIdeal.τ).loc Cert.KernelIdeal.main_v8_0)) (v4 : (c : Dev Cert.KernelIdeal.nD) → Buf (Elt Ideal) ((c.tc : Thread Cert.KernelIdeal.nD Cert.KernelIdeal.τ).loc Cert.KernelIdeal.main_v8_0)) (v5 : (c : Dev Cert.KernelIdeal.nD) → Buf (Elt Ideal) ((c.tc : Thread Cert.KernelIdeal.nD Cert.KernelIdeal.τ).loc Cert.KernelIdeal.main_v17)) (v6 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v16) = v2 c
          ∧ r.2.mem ((c.tc : Thread Cert.KernelIdeal.nD Cert.KernelIdeal.τ).loc Cert.KernelIdeal.main_v8_0) = v3 c
          ∧ r.2.mem ((c.tc : Thread Cert.KernelIdeal.nD Cert.KernelIdeal.τ).loc Cert.KernelIdeal.main_v8_0) = v4 c
          ∧ r.2.mem ((c.tc : Thread Cert.KernelIdeal.nD Cert.KernelIdeal.τ).loc Cert.KernelIdeal.main_v17) = v5 c
          ∧ r.2.mem ((c.tc : Thread Cert.KernelIdeal.nD Cert.KernelIdeal.τ).loc Cert.KernelIdeal.main_v18) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v135) = v2 c
          ∧ r.2.mem ((c.tc : Thread Cert.ReferenceIdeal.nD Cert.ReferenceIdeal.τ).loc Cert.ReferenceIdeal.main_v25) = v3 c
          ∧ r.2.mem ((c.tc : Thread Cert.ReferenceIdeal.nD Cert.ReferenceIdeal.τ).loc Cert.ReferenceIdeal.main_v28) = v4 c
          ∧ r.2.mem ((c.tc : Thread Cert.ReferenceIdeal.nD Cert.ReferenceIdeal.τ).loc Cert.ReferenceIdeal.main_v128) = v5 c
          ∧ r.2.mem ((c.tc : Thread Cert.ReferenceIdeal.nD Cert.ReferenceIdeal.τ).loc Cert.ReferenceIdeal.main_v68) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_one_hot [hKernelIdeal : Cert.KernelIdeal.Facts] [hPost_one_hot : Cert.Post_one_hot.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_one_hot.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v14)) (r.2.mem ((c.tc : Thread Cert.KernelIdeal.nD Cert.KernelIdeal.τ).loc Cert.KernelIdeal.main_v15)) (r.2.mem ((c.tc : Thread Cert.KernelIdeal.nD Cert.KernelIdeal.τ).loc Cert.KernelIdeal.main_v16)) (r.2.mem ((c.tc : Thread Cert.KernelIdeal.nD Cert.KernelIdeal.τ).loc Cert.KernelIdeal.main_v8_0)) (r.2.mem ((c.tc : Thread Cert.KernelIdeal.nD Cert.KernelIdeal.τ).loc Cert.KernelIdeal.main_v8_0)) (r.2.mem ((c.tc : Thread Cert.KernelIdeal.nD Cert.KernelIdeal.τ).loc Cert.KernelIdeal.main_v17)) (r.2.mem ((c.tc : Thread Cert.KernelIdeal.nD Cert.KernelIdeal.τ).loc Cert.KernelIdeal.main_v18))) = (fun _ => 1#1))

def holds_KernelIdeal_distribution [hKernelIdeal : Cert.KernelIdeal.Facts] [hPost_distribution : Cert.Post_distribution.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_distribution.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v14)) (r.2.mem ((c.tc : Thread Cert.KernelIdeal.nD Cert.KernelIdeal.τ).loc Cert.KernelIdeal.main_v15)) (r.2.mem ((c.tc : Thread Cert.KernelIdeal.nD Cert.KernelIdeal.τ).loc Cert.KernelIdeal.main_v16)) (r.2.mem ((c.tc : Thread Cert.KernelIdeal.nD Cert.KernelIdeal.τ).loc Cert.KernelIdeal.main_v8_0)) (r.2.mem ((c.tc : Thread Cert.KernelIdeal.nD Cert.KernelIdeal.τ).loc Cert.KernelIdeal.main_v8_0)) (r.2.mem ((c.tc : Thread Cert.KernelIdeal.nD Cert.KernelIdeal.τ).loc Cert.KernelIdeal.main_v17)) (r.2.mem ((c.tc : Thread Cert.KernelIdeal.nD Cert.KernelIdeal.τ).loc Cert.KernelIdeal.main_v18))) = (fun _ => 1#1))

def Claim : Prop :=
  ∃ (hKernel : Cert.Kernel.Facts) (hKernelIdeal : Cert.KernelIdeal.Facts) (hReferenceIdeal : Cert.ReferenceIdeal.Facts) (hPost_one_hot : Cert.Post_one_hot.Facts) (hPost_distribution : Cert.Post_distribution.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ holds_KernelIdeal_one_hot (hKernelIdeal := hKernelIdeal) (hPost_one_hot := hPost_one_hot)
    ∧ holds_KernelIdeal_distribution (hKernelIdeal := hKernelIdeal) (hPost_distribution := hPost_distribution)
-- ==== Post_distribution.lean ====
abbrev S16x64x32x32 : Shape := ⟨4, ![16, 64, 32, 32]⟩
abbrev S1024x64 : Shape := ⟨2, ![1024, 64]⟩
abbrev S_ : Shape := ⟨0, ![]⟩
abbrev S16384x1024 : Shape := ⟨2, ![16384, 1024]⟩
abbrev S1024 : Shape := ⟨1, ![1024]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S16x64x32x32 .f32) (main_arg1 : FVec F S1024x64 .f32) (main_arg2 : FVec F S16x64x32x32 .f32) (main_arg3 : FVec F S_ .f32) (main_arg4 : FVec F S_ .f32) (main_arg5 : FVec F S16384x1024 .f32) (main_arg6 : FVec F S16384x1024 .f32) (main_arg7 : FVec F S1024 .f32) (main_arg8 : FVec F S1024 .f32) : IVec S_ 1 :=
  let main_cst : FVec F S_ .f32 := constant S_ .f32 0x00000000#32
  let main_v0 : FVec F S1024 .f32 := broadcastInDim S1024 ![] bcast_S_S1024 main_cst
  let main_v1 : IVec S1024 1 := cmpf .oge main_arg7 main_v0
  let main_c : IVec S_ 1 := constantI S_ 1 1#1
  let main_v2 : IVec S_ 1 := (fun x v => Host.reduce IntOp.andi x v reducesTo_S1024_S_d0 h_S_) main_v1 main_c
  let main_cst_0 : FVec F S_ .f32 := constant S_ .f32 0x00000000#32
  let main_v3 : FVec F S_ .f32 := (fun x v => Host.reduceAdd x v reducesTo_S1024_S_d0 h_S_) main_arg7 main_cst_0
  let main_cst_1 : FVec F S_ .f32 := constant S_ .f32 0x3F800000#32
  let main_v4 : IVec S_ 1 := cmpf .oeq main_v3 main_cst_1
  let main_v5 : IVec S_ 1 := andi main_v2 main_v4
  main_v5
-- ==== Post_one_hot.lean ====
abbrev S16x64x32x32 : Shape := ⟨4, ![16, 64, 32, 32]⟩
abbrev S1024x64 : Shape := ⟨2, ![1024, 64]⟩
abbrev S_ : Shape := ⟨0, ![]⟩
abbrev S16384x1024 : Shape := ⟨2, ![16384, 1024]⟩
abbrev S1024 : Shape := ⟨1, ![1024]⟩
abbrev S16384 : Shape := ⟨1, ![16384]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  reducesTo_S16384x1024_S16384_d1 : S16384x1024.ReducesTo [1] S16384
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16x64x32x32 .f32) (main_arg1 : FVec F S1024x64 .f32) (main_arg2 : FVec F S16x64x32x32 .f32) (main_arg3 : FVec F S_ .f32) (main_arg4 : FVec F S_ .f32) (main_arg5 : FVec F S16384x1024 .f32) (main_arg6 : FVec F S16384x1024 .f32) (main_arg7 : FVec F S1024 .f32) (main_arg8 : FVec F S1024 .f32) : IVec S_ 1 :=
  let main_cst : FVec F S_ .f32 := constant S_ .f32 0x00000000#32
  let main_v0 : FVec F S16384x1024 .f32 := broadcastInDim S16384x1024 ![] bcast_S_S16384x1024 main_cst
  let main_v1 : IVec S16384x1024 1 := cmpf .oeq main_arg5 main_v0
  let main_cst_0 : FVec F S_ .f32 := constant S_ .f32 0x3F800000#32
  let main_v2 : FVec F S16384x1024 .f32 := broadcastInDim S16384x1024 ![] bcast_S_S16384x1024 main_cst_0
  let main_v3 : IVec S16384x1024 1 := cmpf .oeq main_arg5 main_v2
  let main_v4 : IVec S16384x1024 1 := ori main_v1 main_v3
  let main_c : IVec S_ 1 := constantI S_ 1 1#1
  let main_v5 : IVec S_ 1 := (fun x v => Host.reduce IntOp.andi x v reducesTo_S16384x1024_S_d0_1 h_S_) main_v4 main_c
  let main_cst_1 : FVec F S_ .f32 := constant S_ .f32 0x00000000#32
  let main_v6 : FVec F S16384 .f32 := (fun x v => Host.reduceAdd x v reducesTo_S16384x1024_S16384_d1 h_S_) main_arg5 main_cst_1
  let main_cst_2 : FVec F S_ .f32 := constant S_ .f32 0x3F800000#32
  let main_v7 : FVec F S16384 .f32 := broadcastInDim S16384 ![] bcast_S_S16384 main_cst_2
  let main_v8 : IVec S16384 1 := cmpf .oeq main_v6 main_v7
  let main_c_3 : IVec S_ 1 := constantI S_ 1 1#1
  let main_v9 : IVec S_ 1 := (fun x v => Host.reduce IntOp.andi x v reducesTo_S16384_S_d0 h_S_) main_v8 main_c_3
  let main_v10 : IVec S_ 1 := andi main_v5 main_v9
  main_v10
-- ==== Kernel.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S1x1 : Shape := ⟨2, ![1, 1]⟩
abbrev S512x64 : Shape := ⟨2, ![512, 64]⟩
abbrev S512x1 : Shape := ⟨2, ![512, 1]⟩
abbrev S512x1024 : Shape := ⟨2, ![512, 1024]⟩
abbrev S512 : Shape := ⟨1, ![512]⟩
abbrev S1x512x64 : Shape := ⟨3, ![1, 512, 64]⟩
abbrev S1 : Shape := ⟨1, ![1]⟩
abbrev S1x1x1 : Shape := ⟨3, ![1, 1, 1]⟩
abbrev S1024x1 : Shape := ⟨2, ![1024, 1]⟩
abbrev S1x1x1024 : Shape := ⟨3, ![1, 1, 1024]⟩
abbrev S1x1024x1 : Shape := ⟨3, ![1, 1024, 1]⟩
abbrev S1024x1024 : Shape := ⟨2, ![1024, 1024]⟩

abbrev nBuf : Space → Nat
  | .hbm => 29
  | .vmem => 19
  | .smem => 0
  | _ => 0

abbrev bufTy : (tb : Table) → Fin (tcTables nBuf tb) → BufTy
  | .hbm, ⟨0, _⟩ => ⟨S16x64x32x32, .f32⟩
  | .hbm, ⟨1, _⟩ => ⟨S1024x64, .f32⟩
  | .hbm, ⟨2, _⟩ => ⟨S16x32x32x64, .f32⟩
  | .hbm, ⟨3, _⟩ => ⟨S16384x64, .f32⟩
  | .hbm, ⟨4, _⟩ => ⟨S16384x64, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S1024x64, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S16384x1024, .f32⟩
  | .hbm, ⟨13, _⟩ => ⟨S16384x64, .f32⟩
  | .hbm, ⟨14, _⟩ => ⟨S1x1024, .f32⟩
  | .hbm, ⟨15, _⟩ => ⟨S1x1, .f32⟩
  | .hbm, ⟨16, _⟩ => ⟨S1024x1, .f32⟩
  | .hbm, ⟨17, _⟩ => ⟨S1x1, .f32⟩
  | .hbm, ⟨18, _⟩ => ⟨S1x1, .f32⟩
  | .hbm, ⟨19, _⟩ => ⟨S1x1024, .f32⟩
  | .hbm, ⟨20, _⟩ => ⟨S1x1024, .f32⟩
  | .hbm, ⟨21, _⟩ => ⟨S16x32x32x64, .f32⟩
  | .hbm, ⟨22, _⟩ => ⟨S16x32x32x64, .f32⟩
  | .hbm, ⟨23, _⟩ => ⟨S16x32x32x64, .f32⟩
  | .hbm, ⟨24, _⟩ => ⟨S16x64x32x32, .f32⟩
  | .hbm, ⟨25, _⟩ => ⟨S_, .f32⟩
  | .hbm, ⟨26, _⟩ => ⟨S_, .f32⟩
  | .hbm, ⟨27, _⟩ => ⟨S1024, .f32⟩
  | .hbm, ⟨28, _⟩ => ⟨S1024, .f32⟩
  | .local _ .vmem, ⟨0, _⟩ => ⟨S512x64, .f32⟩
  | .local _ .vmem, ⟨1, _⟩ => ⟨S512x64, .f32⟩
  | .local _ .vmem, ⟨2, _⟩ => ⟨S1024x64, .f32⟩
  | .local _ .vmem, ⟨3, _⟩ => ⟨S512x1, .f32⟩
  | .local _ .vmem, ⟨4, _⟩ => ⟨S512x1, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x64, .f32⟩
  | .local _ .vmem, ⟨9, _⟩ => ⟨S512x64, .f32⟩
  | .local _ .vmem, ⟨10, _⟩ => ⟨S1x1024, .f32⟩
  | .local _ .vmem, ⟨11, _⟩ => ⟨S1x1, .f32⟩
  | .local _ .vmem, ⟨12, _⟩ => ⟨S1x1024, .f32⟩
  | .local _ .vmem, ⟨13, _⟩ => ⟨S1024x1, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | .local _ .vmem, ⟨17, _⟩ => ⟨S1x1024, .f32⟩
  | .local _ .vmem, ⟨18, _⟩ => ⟨S1x1024, .f32⟩
  | _, _ => ⟨S16x64x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v8_3 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v10_2 : Ref sig .tc := ⟨.hbm, 19, rfl⟩
abbrev main_v10_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := .none

@[reducible] def k1_t1_loop : Scf.Loop 32 :=
  let c0_i32 : BitVec 32 := 0#32
  let c10_i32 : BitVec 32 := 10#32
  let v76 : BitVec 32 := Scalar.addi c0_i32 c10_i32
  let c1_i32 : BitVec 32 := 1#32
  ⟨c0_i32, v76, c1_i32⟩
abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1024x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
-- ==== KernelIdeal.lean ====
variable {F : FTy → Type} [FloatOps F] [Named F]
def κ : String → Option EReal := fun
  | "inv_eps" => some ((268435456 / 13421773 : ℝ) : EReal)
  | _ => none
-- ==== ReferenceIdeal.lean ====
abbrev S16x64x32x32 : Shape := ⟨4, ![16, 64, 32, 32]⟩
abbrev S1024x64 : Shape := ⟨2, ![1024, 64]⟩
abbrev S16x32x32x64 : Shape := ⟨4, ![16, 32, 32, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩
abbrev S1024x1 : Shape := ⟨2, ![1024, 1]⟩
abbrev S1024x1024 : Shape := ⟨2, ![1024, 1024]⟩

abbrev nBuf : Space → Nat
  | .hbm => 296
  | .vmem => 0
  | .smem => 0
  | _ => 0

abbrev hbmTy0_0 (i : Nat) : BufTy := match i % 128 with
  | 0 => ⟨S16x64x32x32, .f32⟩
  | 1 => ⟨S1024x64, .f32⟩
  | 2 => ⟨S16x32x32x64, .f32⟩
  | 3 => ⟨S16384x64, .f32⟩
  | 4 => ⟨S16384x64, .f32⟩
  | 5 => ⟨S_, .f32⟩
  | 6 => ⟨S16384, .f32⟩
  | 7 => ⟨S16384x1, .f32⟩
  | 8 => ⟨S1024x64, .f32⟩
  | 9 => ⟨S_, .f32⟩
  | 10 => ⟨S1024, .f32⟩
  | 11 => ⟨S1x1024, .f32⟩
  | 12 => ⟨S16384x1024, .f32⟩
  | 13 => ⟨S16384x1024, .f32⟩
  | 14 => ⟨S16384x1024, .f32⟩
  | 15 => ⟨S64x1024, .f32⟩
  | 16 => ⟨S16384x1024, .f32⟩
  | 17 => ⟨S_, .f32⟩
  | 18 => ⟨S16384x1024, .f32⟩
  | 19 => ⟨S16384x1024, .f32⟩
  | 20 => ⟨S16384x1024, .f32⟩
  | 21 => ⟨S16384x1024, .i32⟩
  | 22 => ⟨S_, .f32⟩
  | 23 => ⟨S_, .i32⟩
  | 24 => ⟨S16384, .f32⟩
  | 25 => ⟨S16384, .i32⟩
  | 26 => ⟨S16384x1, .i32⟩
  | 27 => ⟨S1x1024, .i32⟩
  | 28 => ⟨S16384x1024, .i32⟩
  | 29 => ⟨S16384x1024, .i32⟩
  | 30 => ⟨S16384x1024, .i1⟩
  | 31 => ⟨S16384x1024, .f32⟩
  | 32 => ⟨S16384x1024, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .i1⟩
  | 40 => ⟨S16384x1024, .f32⟩
  | 41 => ⟨S16384x1024, .f32⟩
  | 42 => ⟨S16384x1024, .f32⟩
  | 43 => ⟨S16384x64, .f32⟩
  | 44 => ⟨S_, .f32⟩
  | 45 => ⟨S16384x1024, .f32⟩
  | 46 => ⟨S16384x1024, .f32⟩
  | 47 => ⟨S16384x64, .f32⟩
  | 48 => ⟨S_, .f32⟩
  | 49 => ⟨S1024, .f32⟩
  | 50 => ⟨S_, .f32⟩
  | 51 => ⟨S1024, .f32⟩
  | 52 => ⟨S1024, .f32⟩
  | 53 => ⟨S16384x1024, .f32⟩
  | 54 => ⟨S_, .f32⟩
  | 55 => ⟨S16384x1024, .f32⟩
  | 56 => ⟨S16384x1024, .f32⟩
  | 57 => ⟨S_, .f32⟩
  | 58 => ⟨S16384, .f32⟩
  | 59 => ⟨S_, .f32⟩
  | 60 => ⟨S16384, .f32⟩
  | 61 => ⟨S16384, .f32⟩
  | 62 => ⟨S16384x1, .f32⟩
  | 63 => ⟨S16384x1024, .f32⟩
  | 64 => ⟨S16384x1024, .f32⟩
  | 65 => ⟨S16384x1024, .f32⟩
  | 66 => ⟨S_, .f32⟩
  | 67 => ⟨S16384, .f32⟩
  | 68 => ⟨S16384x1, .f32⟩
  | 69 => ⟨S16384x1024, .f32⟩
  | 70 => ⟨S16384x1024, .f32⟩
  | 71 => ⟨S_, .f32⟩
  | 72 => ⟨S1024, .f32⟩
  | 73 => ⟨S_, .f32⟩
  | 74 => ⟨S1024, .f32⟩
  | 75 => ⟨S1024, .f32⟩
  | 76 => ⟨S1024, .f32⟩
  | 77 => ⟨S1024, .f32⟩
  | 78 => ⟨S_, .f32⟩
  | 79 => ⟨S_, .f32⟩
  | 80 => ⟨S1024, .f32⟩
  | 81 => ⟨S1024, .f32⟩
  | 82 => ⟨S_, .f32⟩
  | 83 => ⟨S_, .f32⟩
  | 84 => ⟨S1024, .f32⟩
  | 85 => ⟨S1024, .f32⟩
  | 86 => ⟨S1024, .f32⟩
  | 87 => ⟨S_, .f32⟩
  | 88 => ⟨S1024, .f32⟩
  | 89 => ⟨S1024, .f32⟩
  | 90 => ⟨S_, .f32⟩
  | 91 => ⟨S1024, .f32⟩
  | 92 => ⟨S1024, .f32⟩
  | 93 => ⟨S1024, .f32⟩
  | 94 => ⟨S_, .f32⟩
  | 95 => ⟨S1024, .f32⟩
  | 96 => ⟨S1024, .f32⟩
  | 97 => ⟨S1024, .f32⟩
  | 98 => ⟨S_, .f32⟩
  | 99 => ⟨S_, .f32⟩
  | 100 => ⟨S_, .f32⟩
  | 101 => ⟨S_, .f32⟩
  | 102 => ⟨S_, .f32⟩
  | 103 => ⟨S1024, .f32⟩
  | 104 => ⟨S1024, .f32⟩
  | 105 => ⟨S1024x1, .f32⟩
  | 106 => ⟨S1x1024, .f32⟩
  | 107 => ⟨S1024x1024, .f32⟩
  | 108 => ⟨S1024x1024, .f32⟩
  | 109 => ⟨S1024x1024, .f32⟩
  | 110 => ⟨S1024x1024, .f32⟩
  | 111 => ⟨S_, .f32⟩
  | 112 => ⟨S1024, .f32⟩
  | 113 => ⟨S_, .i32⟩
  | 114 => ⟨S_, .i32⟩
  | 115 => ⟨S1024, .f32⟩
  | 116 => ⟨S1024, .f32⟩
  | 117 => ⟨S1024x1024, .f32⟩
  | 118 => ⟨S_, .i32⟩
  | 119 => ⟨S_, .i32⟩
  | 120 => ⟨S1024, .f32⟩
  | 121 => ⟨S_, .i32⟩
  | 122 => ⟨S_, .i1⟩
  | 123 => ⟨S_, .i32⟩
  | 124 => ⟨S_, .i32⟩
  | 125 => ⟨S_, .f32⟩
  | 126 => ⟨S_, .f32⟩
  | 127 => ⟨S1024, .f32⟩
  | _ => ⟨S16x64x32x32, .f32⟩

abbrev hbmTy0_1 (i : Nat) : BufTy := match i % 128 with
  | 0 => ⟨S1024, .f32⟩
  | 1 => ⟨S_, .f32⟩
  | 2 => ⟨S_, .f32⟩
  | 3 => ⟨S1024, .f32⟩
  | 4 => ⟨S1024, .f32⟩
  | 5 => ⟨S_, .f32⟩
  | 6 => ⟨S_, .f32⟩
  | 7 => ⟨S1024, .f32⟩
  | 8 => ⟨S1024, .f32⟩
  | 9 => ⟨S_, .f32⟩
  | 10 => ⟨S_, .f32⟩
  | 11 => ⟨S1024, .f32⟩
  | 12 => ⟨S1024, .f32⟩
  | 13 => ⟨S_, .f32⟩
  | 14 => ⟨S_, .f32⟩
  | 15 => ⟨S1024, .f32⟩
  | 16 => ⟨S1024, .f32⟩
  | 17 => ⟨S1024, .f32⟩
  | 18 => ⟨S1x1024, .f32⟩
  | 19 => ⟨S1024x1024, .f32⟩
  | 20 => ⟨S1x1024, .f32⟩
  | 21 => ⟨S1024x1024, .f32⟩
  | 22 => ⟨S1024x1024, .f32⟩
  | 23 => ⟨S_, .f32⟩
  | 24 => ⟨S1024x1024, .f32⟩
  | 25 => ⟨S1024x1024, .f32⟩
  | 26 => ⟨S1024x1024, .f32⟩
  | 27 => ⟨S1024x1024, .f32⟩
  | 28 => ⟨S_, .f32⟩
  | 29 => ⟨S1024, .f32⟩
  | 30 => ⟨S1024x1, .f32⟩
  | 31 => ⟨S1024x1024, .f32⟩
  | 32 => ⟨S1024x1024, .i1⟩
  | 33 => ⟨S1024x1024, .f32⟩
  | 34 => ⟨S_, .f32⟩
  | 35 => ⟨S1024, .f32⟩
  | 36 => ⟨S1024x1, .f32⟩
  | 37 => ⟨S1024x1024, .f32⟩
  | 38 => ⟨S1024x1024, .f32⟩
  | 39 => ⟨S1024x1024, .f32⟩
  | 40 => ⟨S_, .f32⟩
  | 41 => ⟨S1024, .f32⟩
  | 42 => ⟨S1024, .f32⟩
  | 43 => ⟨S1024, .f32⟩
  | 44 => ⟨S_, .f32⟩
  | 45 => ⟨S1024, .f32⟩
  | 46 => ⟨S1024, .f32⟩
  | 47 => ⟨S1024, .f32⟩
  | 48 => ⟨S_, .f32⟩
  | 49 => ⟨S_, .f32⟩
  | 50 => ⟨S1024, .f32⟩
  | 51 => ⟨S_, .f32⟩
  | 52 => ⟨S_, .f32⟩
  | 53 => ⟨S_, .f32⟩
  | 54 => ⟨S_, .f32⟩
  | 55 => ⟨S1024, .f32⟩
  | 56 => ⟨S1024, .f32⟩
  | 57 => ⟨S_, .f32⟩
  | 58 => ⟨S1024, .f32⟩
  | 59 => ⟨S1024, .f32⟩
  | 60 => ⟨S_, .f32⟩
  | 61 => ⟨S1024, .f32⟩
  | 62 => ⟨S1024, .f32⟩
  | 63 => ⟨S1024, .f32⟩
  | 64 => ⟨S1024x1024, .f32⟩
  | 65 => ⟨S1024x1024, .f32⟩
  | 66 => ⟨S_, .f32⟩
  | 67 => ⟨S1024x1024, .f32⟩
  | 68 => ⟨S1024x1024, .f32⟩
  | 69 => ⟨S_, .f32⟩
  | 70 => ⟨S1024, .f32⟩
  | 71 => ⟨S1x1024, .f32⟩
  | 72 => ⟨S_, .f32⟩
  | 73 => ⟨S1024, .f32⟩
  | 74 => ⟨S1024, .f32⟩
  | 75 => ⟨S_, .f32⟩
  | 76 => ⟨S1024, .f32⟩
  | 77 => ⟨S1024, .f32⟩
  | 78 => ⟨S1024, .f32⟩
  | 79 => ⟨S_, .i32⟩
  | 80 => ⟨S_, .i32⟩
  | 81 => ⟨S_, .f32⟩
  | 82 => ⟨S_, .f32⟩
  | 83 => ⟨S1024, .f32⟩
  | 84 => ⟨S1024, .f32⟩
  | 85 => ⟨S_, .f32⟩
  | 86 => ⟨S_, .f32⟩
  | 87 => ⟨S1024, .f32⟩
  | 88 => ⟨S1024, .f32⟩
  | 89 => ⟨S_, .f32⟩
  | 90 => ⟨S_, .f32⟩
  | 91 => ⟨S1024, .f32⟩
  | 92 => ⟨S1024, .f32⟩
  | 93 => ⟨S_, .f32⟩
  | 94 => ⟨S_, .f32⟩
  | 95 => ⟨S1024, .f32⟩
  | 96 => ⟨S1024, .f32⟩
  | 97 => ⟨S_, .f32⟩
  | 98 => ⟨S_, .f32⟩
  | 99 => ⟨S1024, .f32⟩
  | 100 => ⟨S1024, .f32⟩
  | 101 => ⟨S1024, .f32⟩
  | 102 => ⟨S1x1024, .f32⟩
  | 103 => ⟨S1024x1024, .f32⟩
  | 104 => ⟨S1x1024, .f32⟩
  | 105 => ⟨S1024x1024, .f32⟩
  | 106 => ⟨S1024x1024, .f32⟩
  | 107 => ⟨S_, .f32⟩
  | 108 => ⟨S1024x1024, .f32⟩
  | 109 => ⟨S1024x1024, .f32⟩
  | 110 => ⟨S1024x1024, .f32⟩
  | 111 => ⟨S1024x1024, .f32⟩
  | 112 => ⟨S_, .f32⟩
  | 113 => ⟨S1024, .f32⟩
  | 114 => ⟨S1024x1, .f32⟩
  | 115 => ⟨S1024x1024, .f32⟩
  | 116 => ⟨S1024x1024, .f32⟩
  | 117 => ⟨S1024x1024, .f32⟩
  | 118 => ⟨S_, .f32⟩
  | 119 => ⟨S1024, .f32⟩
  | 120 => ⟨S1024, .f32⟩
  | 121 => ⟨S1024, .f32⟩
  | 122 => ⟨S_, .f32⟩
  | 123 => ⟨S1024, .f32⟩
  | 124 => ⟨S1024, .f32⟩
  | 125 => ⟨S1024, .f32⟩
  | 126 => ⟨S_, .f32⟩
  | 127 => ⟨S_, .f32⟩
  | _ => ⟨S16x64x32x32, .f32⟩

abbrev hbmTy0_2 (i : Nat) : BufTy := match i % 128 with
  | 0 => ⟨S1024, .f32⟩
  | 1 => ⟨S_, .f32⟩
  | 2 => ⟨S_, .f32⟩
  | 3 => ⟨S_, .f32⟩
  | 4 => ⟨S_, .f32⟩
  | 5 => ⟨S_, .f32⟩
  | 6 => ⟨S16384x64, .f32⟩
  | 7 => ⟨S16384x64, .f32⟩
  | 8 => ⟨S_, .f32⟩
  | 9 => ⟨S_, .f32⟩
  | 10 => ⟨S_, .f32⟩
  | 11 => ⟨S_, .f32⟩
  | 12 => ⟨S16384x64, .f32⟩
  | 13 => ⟨S16384x64, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S16x32x32x64, .f32⟩
  | 23 => ⟨S16x32x32x64, .f32⟩
  | 24 => ⟨S16x32x32x64, .f32⟩
  | 25 => ⟨S_, .f32⟩
  | 26 => ⟨S1024, .f32⟩
  | 27 => ⟨S_, .f32⟩
  | 28 => ⟨S1024, .f32⟩
  | 29 => ⟨S1024, .f32⟩
  | 30 => ⟨S_, .f32⟩
  | 31 => ⟨S1024, .f32⟩
  | 32 => ⟨S1024, .f32⟩
  | 33 => ⟨S1024, .f32⟩
  | 34 => ⟨S1024, .f32⟩
  | 35 => ⟨S_, .f32⟩
  | 36 => ⟨S_, .f32⟩
  | 37 => ⟨S_, .f32⟩
  | 38 => ⟨S_, .f32⟩
  | 39 => ⟨S16x64x32x32, .f32⟩
  | _ => ⟨S16x64x32x32, .f32⟩

abbrev hbmTy (i : Nat) : BufTy := match i / 128 with
  | 0 => hbmTy0_0 i
  | 1 => hbmTy0_1 i
  | 2 => hbmTy0_2 i
  | _ => ⟨S16x64x32x32, .f32⟩

abbrev bufTy : (tb : Table) → Fin (tcTables nBuf tb) → BufTy
  | .hbm, ⟨i, _⟩ => hbmTy i
  | _, _ => ⟨S16x64x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v17 : Ref sig .tc := ⟨.hbm, 31, rfl⟩
abbrev main_v18 : Ref sig .tc := ⟨.hbm, 32, rfl⟩
abbrev main_cst_2 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_cst_9 : Ref sig .tc := ⟨.hbm, 57, rfl⟩
abbrev main_v36 : Ref sig .tc := ⟨.hbm, 58, rfl⟩
abbrev main_cst_10 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_11 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_12 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_14 : Ref sig .tc := ⟨.hbm, 78, rfl⟩
abbrev main_call3_v0 : Ref sig .tc := ⟨.hbm, 79, rfl⟩
abbrev main_call3_v1 : Ref sig .tc := ⟨.hbm, 80, rfl⟩
abbrev main_v52 : Ref sig .tc := ⟨.hbm, 81, rfl⟩
abbrev main_cst_15 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_16 : Ref sig .tc := ⟨.hbm, 87, rfl⟩
abbrev main_v57 : Ref sig .tc := ⟨.hbm, 88, rfl⟩
abbrev main_v58 : Ref sig .tc := ⟨.hbm, 89, rfl⟩
abbrev main_cst_17 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_18 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_19 : Ref sig .tc := ⟨.hbm, 98, rfl⟩
abbrev main_v65 : Ref sig .tc := ⟨.hbm, 99, rfl⟩
abbrev main_cst_20 : Ref sig .tc := ⟨.hbm, 100, rfl⟩
abbrev main_call4_v0 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_21 : Ref sig .tc := ⟨.hbm, 111, rfl⟩
abbrev main_v75 : Ref sig .tc := ⟨.hbm, 112, rfl⟩
abbrev main_c : Ref sig .tc := ⟨.hbm, 113, rfl⟩
abbrev main_c_22 : Ref sig .tc := ⟨.hbm, 114, rfl⟩
abbrev main_v76_0 : Ref sig .tc := ⟨.hbm, 115, rfl⟩
abbrev main_v76_1 : Ref sig .tc := ⟨.hbm, 116, rfl⟩
abbrev main_v76_2 : Ref sig .tc := ⟨.hbm, 117, rfl⟩
abbrev main_v76_3 : Ref sig .tc := ⟨.hbm, 118, rfl⟩
abbrev main_v76_4 : Ref sig .tc := ⟨.hbm, 119, rfl⟩
abbrev main_v76_5 : Ref sig .tc := ⟨.hbm, 120, rfl⟩
abbrev main_while0c_c_49 : Ref sig .tc := ⟨.hbm, 121, rfl⟩
abbrev main_while0c_v137 : Ref sig .tc := ⟨.hbm, 122, rfl⟩
abbrev main_while0b_c_49 : Ref sig .tc := ⟨.hbm, 123, rfl⟩
abbrev main_while0b_v137 : Ref sig .tc := ⟨.hbm, 124, rfl⟩
abbrev main_while0b_cst_50 : Ref sig .tc := ⟨.hbm, 125, rfl⟩
abbrev main_while0b_call5_v0 : Ref sig .tc := ⟨.hbm, 126, rfl⟩
abbrev main_while0b_call5_v1 : Ref sig .tc := ⟨.hbm, 127, rfl⟩
abbrev main_while0b_v138 : Ref sig .tc := ⟨.hbm, 128, rfl⟩
abbrev main_while0b_cst_51 : Ref sig .tc := ⟨.hbm, 129, rfl⟩
abbrev main_while0b_v139 : Ref sig .tc := ⟨.hbm, 130, rfl⟩
abbrev main_while0b_v140 : Ref sig .tc := ⟨.hbm, 131, rfl⟩
abbrev main_while0b_v141 : Ref sig .tc := ⟨.hbm, 132, rfl⟩
abbrev main_while0b_cst_52 : Ref sig .tc := ⟨.hbm, 133, rfl⟩
abbrev main_while0b_call6_v0 : Ref sig .tc := ⟨.hbm, 134, rfl⟩
abbrev main_while0b_call6_v1 : Ref sig .tc := ⟨.hbm, 135, rfl⟩
abbrev main_while0b_v142 : Ref sig .tc := ⟨.hbm, 136, rfl⟩
abbrev main_while0b_cst_53 : Ref sig .tc := ⟨.hbm, 137, rfl⟩
abbrev main_while0b_v143 : Ref sig .tc := ⟨.hbm, 138, rfl⟩
abbrev main_while0b_v144 : Ref sig .tc := ⟨.hbm, 139, rfl⟩
abbrev main_while0b_v145 : Ref sig .tc := ⟨.hbm, 140, rfl⟩
abbrev main_while0b_cst_54 : Ref sig .tc := ⟨.hbm, 141, rfl⟩
abbrev main_while0b_call7_v0 : Ref sig .tc := ⟨.hbm, 142, rfl⟩
abbrev main_while0b_call7_v1 : Ref sig .tc := ⟨.hbm, 143, rfl⟩
abbrev main_while0b_v146 : Ref sig .tc := ⟨.hbm, 144, rfl⟩
abbrev main_while0b_v147 : Ref sig .tc := ⟨.hbm, 145, rfl⟩
abbrev main_while0b_v148 : Ref sig .tc := ⟨.hbm, 146, rfl⟩
abbrev main_while0b_v149 : Ref sig .tc := ⟨.hbm, 147, rfl⟩
abbrev main_while0b_v150 : Ref sig .tc := ⟨.hbm, 148, rfl⟩
abbrev main_while0b_v151 : Ref sig .tc := ⟨.hbm, 149, rfl⟩
abbrev main_while0b_v152 : Ref sig .tc := ⟨.hbm, 150, rfl⟩
abbrev main_while0b_cst_55 : Ref sig .tc := ⟨.hbm, 151, rfl⟩
abbrev main_while0b_v153 : Ref sig .tc := ⟨.hbm, 152, rfl⟩
abbrev main_while0b_v154 : Ref sig .tc := ⟨.hbm, 153, rfl⟩
abbrev main_while0b_v155 : Ref sig .tc := ⟨.hbm, 154, rfl⟩
abbrev main_while0b_v156 : Ref sig .tc := ⟨.hbm, 155, rfl⟩
abbrev main_while0b_cst_56 : Ref sig .tc := ⟨.hbm, 156, rfl⟩
abbrev main_while0b_v157 : Ref sig .tc := ⟨.hbm, 157, rfl⟩
abbrev main_while0b_v158 : Ref sig .tc := ⟨.hbm, 158, rfl⟩
abbrev main_while0b_v159 : Ref sig .tc := ⟨.hbm, 159, rfl⟩
abbrev main_while0b_v160 : Ref sig .tc := ⟨.hbm, 160, rfl⟩
abbrev main_while0b_v161 : Ref sig .tc := ⟨.hbm, 161, rfl⟩
abbrev main_while0b_cst_57 : Ref sig .tc := ⟨.hbm, 162, rfl⟩
abbrev main_while0b_v162 : Ref sig .tc := ⟨.hbm, 163, rfl⟩
abbrev main_while0b_v163 : Ref sig .tc := ⟨.hbm, 164, rfl⟩
abbrev main_while0b_v164 : Ref sig .tc := ⟨.hbm, 165, rfl⟩
abbrev main_while0b_v165 : Ref sig .tc := ⟨.hbm, 166, rfl⟩
abbrev main_while0b_v166 : Ref sig .tc := ⟨.hbm, 167, rfl⟩
abbrev main_while0b_cst_58 : Ref sig .tc := ⟨.hbm, 168, rfl⟩
abbrev main_while0b_v167 : Ref sig .tc := ⟨.hbm, 169, rfl⟩
abbrev main_while0b_v168 : Ref sig .tc := ⟨.hbm, 170, rfl⟩
abbrev main_while0b_v169 : Ref sig .tc := ⟨.hbm, 171, rfl⟩
abbrev main_while0b_cst_59 : Ref sig .tc := ⟨.hbm, 172, rfl⟩
abbrev main_while0b_v170 : Ref sig .tc := ⟨.hbm, 173, rfl⟩
abbrev main_while0b_v171 : Ref sig .tc := ⟨.hbm, 174, rfl⟩
abbrev main_while0b_v172 : Ref sig .tc := ⟨.hbm, 175, rfl⟩
abbrev main_while0b_cst_60 : Ref sig .tc := ⟨.hbm, 176, rfl⟩
abbrev main_while0b_v173 : Ref sig .tc := ⟨.hbm, 177, rfl⟩
abbrev main_while0b_v174 : Ref sig .tc := ⟨.hbm, 178, rfl⟩
abbrev main_while0b_cst_61 : Ref sig .tc := ⟨.hbm, 179, rfl⟩
abbrev main_while0b_v175 : Ref sig .tc := ⟨.hbm, 180, rfl⟩
abbrev main_while0b_v176 : Ref sig .tc := ⟨.hbm, 181, rfl⟩
abbrev main_while0b_cst_62 : Ref sig .tc := ⟨.hbm, 182, rfl⟩
abbrev main_while0b_v177 : Ref sig .tc := ⟨.hbm, 183, rfl⟩
abbrev main_while0b_v178 : Ref sig .tc := ⟨.hbm, 184, rfl⟩
abbrev main_while0b_cst_63 : Ref sig .tc := ⟨.hbm, 185, rfl⟩
abbrev main_while0b_v179 : Ref sig .tc := ⟨.hbm, 186, rfl⟩
abbrev main_while0b_v180 : Ref sig .tc := ⟨.hbm, 187, rfl⟩
abbrev main_while0b_cst_64 : Ref sig .tc := ⟨.hbm, 188, rfl⟩
abbrev main_while0b_v181 : Ref sig .tc := ⟨.hbm, 189, rfl⟩
abbrev main_while0b_v182 : Ref sig .tc := ⟨.hbm, 190, rfl⟩
abbrev main_while0b_v183 : Ref sig .tc := ⟨.hbm, 191, rfl⟩
abbrev main_while0b_v184 : Ref sig .tc := ⟨.hbm, 192, rfl⟩
abbrev main_while0b_v185 : Ref sig .tc := ⟨.hbm, 193, rfl⟩
abbrev main_while0b_cst_65 : Ref sig .tc := ⟨.hbm, 194, rfl⟩
abbrev main_while0b_v186 : Ref sig .tc := ⟨.hbm, 195, rfl⟩
abbrev main_while0b_v187 : Ref sig .tc := ⟨.hbm, 196, rfl⟩
abbrev main_while0b_cst_66 : Ref sig .tc := ⟨.hbm, 197, rfl⟩
abbrev main_while0b_v188 : Ref sig .tc := ⟨.hbm, 198, rfl⟩
abbrev main_while0b_v189 : Ref sig .tc := ⟨.hbm, 199, rfl⟩
abbrev main_while0b_cst_67 : Ref sig .tc := ⟨.hbm, 200, rfl⟩
abbrev main_while0b_v190 : Ref sig .tc := ⟨.hbm, 201, rfl⟩
abbrev main_while0b_v191 : Ref sig .tc := ⟨.hbm, 202, rfl⟩
abbrev main_while0b_cst_68 : Ref sig .tc := ⟨.hbm, 203, rfl⟩
abbrev main_while0b_v192 : Ref sig .tc := ⟨.hbm, 204, rfl⟩
abbrev main_while0b_v193 : Ref sig .tc := ⟨.hbm, 205, rfl⟩
abbrev main_while0b_v194 : Ref sig .tc := ⟨.hbm, 206, rfl⟩
abbrev main_while0b_c_69 : Ref sig .tc := ⟨.hbm, 207, rfl⟩
abbrev main_while0b_v195 : Ref sig .tc := ⟨.hbm, 208, rfl⟩
abbrev main_cst_23 : Ref sig .tc := ⟨.hbm, 209, rfl⟩
abbrev main_call8_v0 : Ref sig .tc := ⟨.hbm, 210, rfl⟩
abbrev main_call8_v1 : Ref sig .tc := ⟨.hbm, 211, rfl⟩
abbrev main_v77 : Ref sig .tc := ⟨.hbm, 212, rfl⟩
abbrev main_cst_24 : Ref sig .tc := ⟨.hbm, 213, rfl⟩
abbrev main_v78 : Ref sig .tc := ⟨.hbm, 214, rfl⟩
abbrev main_v79 : Ref sig .tc := ⟨.hbm, 215, rfl⟩
abbrev main_v80 : Ref sig .tc := ⟨.hbm, 216, rfl⟩
abbrev main_cst_25 : Ref sig .tc := ⟨.hbm, 217, rfl⟩
abbrev main_call9_v0 : Ref sig .tc := ⟨.hbm, 218, rfl⟩
abbrev main_call9_v1 : Ref sig .tc := ⟨.hbm, 219, rfl⟩
abbrev main_v81 : Ref sig .tc := ⟨.hbm, 220, rfl⟩
abbrev main_cst_26 : Ref sig .tc := ⟨.hbm, 221, rfl⟩
abbrev main_v82 : Ref sig .tc := ⟨.hbm, 222, rfl⟩
abbrev main_v83 : Ref sig .tc := ⟨.hbm, 223, rfl⟩
abbrev main_v84 : Ref sig .tc := ⟨.hbm, 224, rfl⟩
abbrev main_cst_27 : Ref sig .tc := ⟨.hbm, 225, rfl⟩
abbrev main_call10_v0 : Ref sig .tc := ⟨.hbm, 226, rfl⟩
abbrev main_call10_v1 : Ref sig .tc := ⟨.hbm, 227, rfl⟩
abbrev main_v85 : Ref sig .tc := ⟨.hbm, 228, rfl⟩
abbrev main_v86 : Ref sig .tc := ⟨.hbm, 229, rfl⟩
abbrev main_v87 : Ref sig .tc := ⟨.hbm, 230, rfl⟩
abbrev main_v88 : Ref sig .tc := ⟨.hbm, 231, rfl⟩
abbrev main_v89 : Ref sig .tc := ⟨.hbm, 232, rfl⟩
abbrev main_v90 : Ref sig .tc := ⟨.hbm, 233, rfl⟩
abbrev main_v91 : Ref sig .tc := ⟨.hbm, 234, rfl⟩
abbrev main_cst_28 : Ref sig .tc := ⟨.hbm, 235, rfl⟩
abbrev main_v92 : Ref sig .tc := ⟨.hbm, 236, rfl⟩
abbrev main_v93 : Ref sig .tc := ⟨.hbm, 237, rfl⟩
abbrev main_v94 : Ref sig .tc := ⟨.hbm, 238, rfl⟩
abbrev main_v95 : Ref sig .tc := ⟨.hbm, 239, rfl⟩
abbrev main_cst_29 : Ref sig .tc := ⟨.hbm, 240, rfl⟩
abbrev main_v96 : Ref sig .tc := ⟨.hbm, 241, rfl⟩
abbrev main_v97 : Ref sig .tc := ⟨.hbm, 242, rfl⟩
abbrev main_v98 : Ref sig .tc := ⟨.hbm, 243, rfl⟩
abbrev main_v99 : Ref sig .tc := ⟨.hbm, 244, rfl⟩
abbrev main_v100 : Ref sig .tc := ⟨.hbm, 245, rfl⟩
abbrev main_cst_30 : Ref sig .tc := ⟨.hbm, 246, rfl⟩
abbrev main_v101 : Ref sig .tc := ⟨.hbm, 247, rfl⟩
abbrev main_v102 : Ref sig .tc := ⟨.hbm, 248, rfl⟩
abbrev main_v103 : Ref sig .tc := ⟨.hbm, 249, rfl⟩
abbrev main_cst_31 : Ref sig .tc := ⟨.hbm, 250, rfl⟩
abbrev main_v104 : Ref sig .tc := ⟨.hbm, 251, rfl⟩
abbrev main_v105 : Ref sig .tc := ⟨.hbm, 252, rfl⟩
abbrev main_v106 : Ref sig .tc := ⟨.hbm, 253, rfl⟩
abbrev main_cst_32 : Ref sig .tc := ⟨.hbm, 254, rfl⟩
abbrev main_v107 : Ref sig .tc := ⟨.hbm, 255, rfl⟩
abbrev main_v108 : Ref sig .tc := ⟨.hbm, 256, rfl⟩
abbrev main_cst_33 : Ref sig .tc := ⟨.hbm, 257, rfl⟩
abbrev main_v109 : Ref sig .tc := ⟨.hbm, 258, rfl⟩
abbrev main_v110 : Ref sig .tc := ⟨.hbm, 259, rfl⟩
abbrev main_cst_34 : Ref sig .tc := ⟨.hbm, 260, rfl⟩
abbrev main_v111 : Ref sig .tc := ⟨.hbm, 261, rfl⟩
abbrev main_v112 : Ref sig .tc := ⟨.hbm, 262, rfl⟩
abbrev main_v113 : Ref sig .tc := ⟨.hbm, 263, rfl⟩
abbrev main_cst_35 : Ref sig .tc := ⟨.hbm, 264, rfl⟩
abbrev main_v114 : Ref sig .tc := ⟨.hbm, 265, rfl⟩
abbrev main_cst_36 : Ref sig .tc := ⟨.hbm, 266, rfl⟩
abbrev main_v115 : Ref sig .tc := ⟨.hbm, 267, rfl⟩
abbrev main_v116 : Ref sig .tc := ⟨.hbm, 268, rfl⟩
abbrev main_v117 : Ref sig .tc := ⟨.hbm, 269, rfl⟩
abbrev main_cst_37 : Ref sig .tc := ⟨.hbm, 270, rfl⟩
abbrev main_v118 : Ref sig .tc := ⟨.hbm, 271, rfl⟩
abbrev main_cst_38 : Ref sig .tc := ⟨.hbm, 272, rfl⟩
abbrev main_v119 : Ref sig .tc := ⟨.hbm, 273, rfl⟩
abbrev main_cst_39 : Ref sig .tc := ⟨.hbm, 274, rfl⟩
abbrev main_v120 : Ref sig .tc := ⟨.hbm, 275, rfl⟩
abbrev main_v121 : Ref sig .tc := ⟨.hbm, 276, rfl⟩
abbrev main_v122 : Ref sig .tc := ⟨.hbm, 277, rfl⟩
abbrev main_v123 : Ref sig .tc := ⟨.hbm, 278, rfl⟩
abbrev main_v124 : Ref sig .tc := ⟨.hbm, 279, rfl⟩
abbrev main_v125 : Ref sig .tc := ⟨.hbm, 280, rfl⟩
abbrev main_cst_40 : Ref sig .tc := ⟨.hbm, 281, rfl⟩
abbrev main_v126 : Ref sig .tc := ⟨.hbm, 282, rfl⟩
abbrev main_cst_41 : Ref sig .tc := ⟨.hbm, 283, rfl⟩
abbrev main_v127 : Ref sig .tc := ⟨.hbm, 284, rfl⟩
abbrev main_v128 : Ref sig .tc := ⟨.hbm, 285, rfl⟩
abbrev main_cst_42 : Ref sig .tc := ⟨.hbm, 286, rfl⟩
abbrev main_v129 : Ref sig .tc := ⟨.hbm, 287, rfl⟩
abbrev main_v130 : Ref sig .tc := ⟨.hbm, 288, rfl⟩
abbrev main_v131 : Ref sig .tc := ⟨.hbm, 289, rfl⟩
abbrev main_v132 : Ref sig .tc := ⟨.hbm, 290, rfl⟩
abbrev main_cst_43 : Ref sig .tc := ⟨.hbm, 291, rfl⟩
abbrev main_v133 : Ref sig .tc := ⟨.hbm, 292, rfl⟩
abbrev main_v134 : Ref sig .tc := ⟨.hbm, 293, rfl⟩
abbrev main_v135 : Ref sig .tc := ⟨.hbm, 294, rfl⟩
abbrev main_v136 : Ref sig .tc := ⟨.hbm, 295, rfl⟩

abbrev nD : Nat := 1
abbrev τ : Topo := Topo.v7x

variable {F : FTy → Type} [FloatOps F]

abbrev main_while0_count : Scf.Loop 32 := ⟨0#32, 10#32, 1#32⟩
-- ==== Proof.RefRun.lean ====
/- The run of the reference: where its results are found, and that its arguments are kept. -/
module

public import proofs.«01_k».proof.Defs
public import proofs.«01_k».proof.Proof.Gen.ReferenceIdeal
public import proofs.«01_k».proof.Proof.Gen.ReferenceIdeal.Run
public import Idealize.ShloMosaic.Lib.Quiescent

@[expose] public section

set_option maxRecDepth 16384

noncomputable section

namespace Cert.Proof.RefRun

open Idealize.ShloMosaic Idealize.ShloMosaic.TcCoe Idealize.ShloMosaic.StableHlo Idealize.SL.Sem
open Cert.ReferenceIdeal Cert.ReferenceIdeal.Gen Cert.ReferenceIdeal.Value

/-- The first argument is written by no operation. -/
theorem final_arg0 (m : (ℓ : Loc nD τ sig) → Buf (Elt Ideal) ℓ) (c : Dev nD) :
    finalContents condOps preI bodyI postI 10 m c (Proc.devRef .tc main_arg0) = m ((c.tc : Thread nD τ).loc main_arg0) := by
  have hbody : ∀ V : Valuation τ sig (Elt Ideal), afterL bodyI (after condOps V) (Proc.devRef .tc main_arg0) = V (Proc.devRef .tc main_arg0) := by
    intro V
    simp only [bodyI, afterL_cons, afterL_nil]
    after_reads_simp
  have hk : ∀ k, atTrip condOps bodyI (entryContents preI m) k c (Proc.devRef .tc main_arg0) = m ((c.tc : Thread nD τ).loc main_arg0) := by
    intro k
    induction k with
    | zero =>
      simp only [atTrip_zero, entryContents, preI, afterL_cons, afterL_nil]
      after_reads_simp
    | succ k ih => rw [atTrip_succ]; exact (hbody _).trans ih
  have hpost : ∀ V : Valuation τ sig (Elt Ideal), afterL postI (after condOps V) (Proc.devRef .tc main_arg0) = V (Proc.devRef .tc main_arg0) := by
    intro V
    simp only [postI, afterL_cons, afterL_nil]
    after_reads_simp
  exact (hpost _).trans (hk 10)

/-- The second argument is written by no operation. -/
theorem final_arg1 (m : (ℓ : Loc nD τ sig) → Buf (Elt Ideal) ℓ) (c : Dev nD) :
    finalContents condOps preI bodyI postI 10 m c (Proc.devRef .tc main_arg1) = m ((c.tc : Thread nD τ).loc main_arg1) := by
  have hbody : ∀ V : Valuation τ sig (Elt Ideal), afterL bodyI (after condOps V) (Proc.devRef .tc main_arg1) = V (Proc.devRef .tc main_arg1) := by
    intro V
    simp only [bodyI, afterL_cons, afterL_nil]
    after_reads_simp
  have hk : ∀ k, atTrip condOps bodyI (entryContents preI m) k c (Proc.devRef .tc main_arg1) = m ((c.tc : Thread nD τ).loc main_arg1) := by
    intro k
    induction k with
    | zero =>
      simp only [atTrip_zero, entryContents, preI, afterL_cons, afterL_nil]
      after_reads_simp
    | succ k ih => rw [atTrip_succ]; exact (hbody _).trans ih
  have hpost : ∀ V : Valuation τ sig (Elt Ideal), afterL postI (after condOps V) (Proc.devRef .tc main_arg1) = V (Proc.devRef .tc main_arg1) := by
    intro V
    simp only [postI, afterL_cons, afterL_nil]
    after_reads_simp
  exact (hpost _).trans (hk 10)

/-- The reference's frame: it runs, keeps its arguments, and, having no semaphores, ends with every counter at zero. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run _ _ _).mono (fun r h => ⟨fun c => ⟨(h c main_arg0 rfl).trans (final_arg0 m c), (h c main_arg1 rfl).trans (final_arg1 m c)⟩,
    sem_eq_zero_of_no_sems (by decide) r.2⟩) (run_fold m ρ)

end Cert.Proof.RefRun

end
-- ==== Proof.KerRun.lean ====
/- The run of the kernel: every result buffer holds what the last boundary's contents say. The launch is set up as the
   frame's; only what is kept of the final state differs. -/
module

public import proofs.«01_k».proof.Defs
public import proofs.«01_k».proof.Proof.Gen.KernelIdeal
public import proofs.«01_k».proof.Proof.Gen.KernelIdeal.Frame

@[expose] public section

set_option maxRecDepth 16384

noncomputable section

namespace Cert.Proof.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel runs; its results are `W5` at their buffers and its arguments are kept. -/
theorem run : θ_run defs (onTc (τ := τ) (main (F := F))) ⟨m, fun _ => 0, ρ⟩ (fun r => ∀ c : Dev nD,
      r.2.mem ((c.tc : Thread nD τ).loc main_v14) = W5 m ρ c (Proc.devRef .tc main_v14)
      ∧ r.2.mem ((c.tc : Thread nD τ).loc main_v15) = W5 m ρ c (Proc.devRef .tc main_v15)
      ∧ r.2.mem ((c.tc : Thread nD τ).loc main_v16) = W5 m ρ c (Proc.devRef .tc main_v16)
      ∧ r.2.mem ((c.tc : Thread nD τ).loc main_v8_0) = W5 m ρ c (Proc.devRef .tc main_v8_0)
      ∧ r.2.mem ((c.tc : Thread nD τ).loc main_v17) = W5 m ρ c (Proc.devRef .tc main_v17)
      ∧ r.2.mem ((c.tc : Thread nD τ).loc main_v18) = W5 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ c =>
      ⟨h c _ (mem_uc main_v14 (by decide)), h c _ (mem_uc main_v15 (by decide)), h c _ (mem_uc main_v16 (by decide)),
       h c _ (mem_uc main_v8_0 (by decide)), h c _ (mem_uc main_v17 (by decide)), h c _ (mem_uc main_v18 (by decide)),
       (h c _ (mem_uc main_arg0 (by decide))).trans (W5_main_arg0 m ρ c),
       (h c _ (mem_uc main_arg1 (by decide))).trans (W5_main_arg1 m ρ c)⟩)

end Cert.Proof.KerRun

end
-- ==== Proof.FirstMin.lean ====
/-
  The code chosen for one row: the first position at which a row of 1024 extended reals is least. The kernel finds it by
  two minima (the least value, then the least position holding it), the reference by one fold over pairs of a value and a
  position; both are the same position, and the row of the encoding has its single one there.
-/
module

public import Idealize.ShloMosaic.Lib.Pointwise
public import Idealize.ShloMosaic.Lib.SortNet.Extract
public import Idealize.ShloMosaic.PureOps.Ideal.Laws

@[expose] public section

noncomputable section

open Idealize.ShloMosaic

namespace Cert.Proof.FirstMin

/-- Position `j` holds the least value of the row, and every earlier position a greater one. -/
def IsFirst (f : Fin 1024 → EReal) (j : Fin 1024) : Prop := (∀ k, f j ≤ f k) ∧ ∀ k, k < j → f j < f k

theorem IsFirst.unique {f : Fin 1024 → EReal} {i j : Fin 1024} (hi : IsFirst f i) (hj : IsFirst f j) : i = j := by
  rcases lt_trichotomy i j with h | h | h
  · exact absurd (hi.1 j) (not_le.mpr (hj.2 i h))
  · exact h
  · exact absurd (hj.1 i) (not_le.mpr (hi.2 j h))

/-- Every row has a first least position. -/
theorem exists_isFirst (f : Fin 1024 → EReal) : ∃ j, IsFirst f j := by
  classical
  obtain ⟨m, -, hm⟩ := Finset.exists_min_image (Finset.univ : Finset (Fin 1024)) f Finset.univ_nonempty
  have hne : (Finset.univ.filter fun k => f k = f m).Nonempty := ⟨m, by simp⟩
  refine ⟨(Finset.univ.filter fun k => f k = f m).min' hne, ?_, fun k hk => ?_⟩
  · intro k
    have h := Finset.min'_mem _ hne
    rw [Finset.mem_filter] at h
    rw [h.2]; exact hm k (Finset.mem_univ k)
  · have h := Finset.min'_mem _ hne
    rw [Finset.mem_filter] at h
    rw [h.2]
    refine lt_of_le_of_ne (hm k (Finset.mem_univ k)) fun e => ?_
    exact absurd (Finset.min'_le _ k (by rw [Finset.mem_filter]; exact ⟨Finset.mem_univ k, e.symm⟩)) (not_le.mpr hk)

/-- The first least position. -/
def arg (f : Fin 1024 → EReal) : Fin 1024 := (exists_isFirst f).choose

theorem isFirst_arg (f : Fin 1024 → EReal) : IsFirst f (arg f) := (exists_isFirst f).choose_spec

/-- The row of the encoding: one at the first least position, zero elsewhere. -/
def hot (f : Fin 1024 → EReal) (j : Fin 1024) : EReal := if j = arg f then 1 else 0

theorem toInt_ofNat (j : Fin 1024) : (BitVec.ofNat 32 (j : ℕ)).toInt = (j : ℤ) := by
  have := j.isLt
  rw [BitVec.toInt_eq_toNat_of_lt] <;> rw [BitVec.toNat_ofNat, Nat.mod_eq_of_lt (by omega)]
  omega

theorem ofNat_inj {i j : Fin 1024} : BitVec.ofNat 32 (i : ℕ) = BitVec.ofNat 32 (j : ℕ) ↔ i = j := by
  constructor
  · intro h
    have := congrArg BitVec.toInt h
    rw [toInt_ofNat, toInt_ofNat] at this
    exact Fin.ext (by exact_mod_cast this)
  · rintro rfl; rfl

/-- The kernel's position: the least of the positions at which the row is its least value, taken with signed words. -/
theorem fold_minsi (f : Fin 1024 → EReal) (μ : EReal) (hμ : μ = Finset.univ.fold min ⊤ f)
    [∀ k, Decidable (f k = μ)] :
    Finset.univ.fold IntOp.minsi 2147483647#32 (fun k : Fin 1024 => if f k = μ then BitVec.ofNat 32 (k : ℕ) else 1024#32)
      = BitVec.ofNat 32 (arg f : ℕ) := by
  have hA := isFirst_arg f
  have hm : μ = f (arg f) := by
    rw [hμ]
    apply le_antisymm
    · exact (Finset.fold_min_le _).mpr (Or.inr ⟨arg f, Finset.mem_univ _, le_rfl⟩)
    · exact (Finset.le_fold_min _).mpr ⟨le_top, fun k _ => hA.1 k⟩
  apply BitVec.eq_of_toInt_eq
  rw [toInt_ofNat, ← Finset.fold_hom (op' := min) (m := BitVec.toInt) (fun x y => SortNet.toInt_minsi x y)]
  apply le_antisymm
  · refine (Finset.fold_min_le _).mpr (Or.inr ⟨arg f, Finset.mem_univ _, ?_⟩)
    rw [if_pos hm.symm, toInt_ofNat]
  · refine (Finset.le_fold_min _).mpr ⟨?_, fun k _ => ?_⟩
    · have := (arg f).isLt
      have h : (2147483647#32 : BitVec 32).toInt = 2147483647 := by decide
      rw [h]; omega
    · split
      · rename_i h
        rw [toInt_ofNat]
        rw [hm] at h
        by_contra hc
        exact absurd (hA.2 k (by rw [Fin.lt_def]; omega)) (by rw [h]; exact lt_irrefl _)
      · have := (arg f).isLt
        have h : (1024#32 : BitVec 32).toInt = 1024 := by decide
        rw [h]; omega

/-- Pairs of a value and a position, by value and then by position read signed. -/
def Le (a b : EReal × BitVec 32) : Prop := a.1 < b.1 ∨ (a.1 = b.1 ∧ a.2.toInt ≤ b.2.toInt)

theorem Le.trans {a b c : EReal × BitVec 32} (h : Le a b) (h' : Le b c) : Le a c := by
  rcases h with h | ⟨h, g⟩ <;> rcases h' with h' | ⟨h', g'⟩
  · exact Or.inl (h.trans h')
  · exact Or.inl (h' ▸ h)
  · exact Or.inl (h ▸ h')
  · exact Or.inr ⟨h.trans h', g.trans g'⟩

theorem Le.refl (a : EReal × BitVec 32) : Le a a := Or.inr ⟨rfl, le_rfl⟩

/-- A body that keeps one of its two pairs, the least, folds a list into a least one of its pairs. -/
theorem foldl_least (op : EReal × BitVec 32 → EReal × BitVec 32 → EReal × BitVec 32)
    (hop : ∀ a b, (op a b = a ∧ Le a b) ∨ (op a b = b ∧ Le b a)) :
    ∀ (L : List (EReal × BitVec 32)) (a : EReal × BitVec 32),
      (L.foldl op a = a ∨ L.foldl op a ∈ L) ∧ Le (L.foldl op a) a ∧ ∀ p ∈ L, Le (L.foldl op a) p
  | [], a => ⟨Or.inl rfl, Le.refl _, by simp⟩
  | b :: L, a => by
    obtain ⟨h1, h2, h3⟩ := foldl_least op hop L (op a b)
    rw [List.foldl_cons]
    rcases hop a b with ⟨e, h⟩ | ⟨e, h⟩ <;> rw [e] at h1 h2 h3 ⊢
    · refine ⟨h1.imp id fun h => List.mem_cons_of_mem _ h, h2, fun p hp => ?_⟩
      rcases List.mem_cons.mp hp with rfl | hp
      · exact h2.trans h
      · exact h3 p hp
    · refine ⟨Or.inr ?_, h2.trans h, fun p hp => ?_⟩
      · rcases h1 with h1 | h1
        · rw [h1]; exact List.mem_cons_self
        · exact List.mem_cons_of_mem _ h1
      · rcases List.mem_cons.mp hp with rfl | hp
        · exact h2
        · exact h3 p hp

/-- The reference's position: the fold's second component, over any list of the row's pairs. -/
theorem foldl_arg (op : EReal × BitVec 32 → EReal × BitVec 32 → EReal × BitVec 32)
    (hop : ∀ a b, (op a b = a ∧ Le a b) ∨ (op a b = b ∧ Le b a)) (f : Fin 1024 → EReal)
    (L : List (EReal × BitVec 32)) (hL : ∀ p, p ∈ L ↔ ∃ k : Fin 1024, p = (f k, BitVec.ofNat 32 (k : ℕ))) :
    (L.foldl op (⊤, 0#32)).2 = BitVec.ofNat 32 (arg f : ℕ) := by
  obtain ⟨h1, -, h3⟩ := foldl_least op hop L (⊤, 0#32)
  have hA := isFirst_arg f
  have hmin := h3 _ ((hL _).mpr ⟨arg f, rfl⟩)
  rcases h1 with h1 | h1
  · rw [h1] at hmin ⊢
    rcases hmin with h | ⟨h, -⟩
    · exact absurd h (not_lt.mpr le_top)
    · have h0 : arg f = 0 := by
        by_contra hne
        have hpos : (0 : Fin 1024) < arg f := Fin.pos_iff_ne_zero.mpr hne
        have := hA.2 0 hpos
        dsimp only at h
        rw [← h] at this
        exact absurd this (not_lt.mpr le_top)
      rw [h0]; rfl
  · obtain ⟨k, hk⟩ := (hL _).mp h1
    rw [hk] at hmin ⊢
    have : k = arg f := by
      refine IsFirst.unique ⟨fun i => ?_, fun i hi => ?_⟩ hA
      · have := h3 _ ((hL _).mpr ⟨i, rfl⟩)
        rw [hk] at this
        rcases this with h | ⟨h, -⟩
        · exact h.le
        · exact h.le
      · have := h3 _ ((hL _).mpr ⟨i, rfl⟩)
        rw [hk] at this
        rcases this with h | ⟨-, h⟩
        · exact h
        · dsimp only at h
          rw [toInt_ofNat, toInt_ofNat] at h
          rw [Fin.lt_def] at hi
          omega
    rw [this]

end Cert.Proof.FirstMin
-- ==== Proof.Spec.lean ====
/-
  The problem's quantities as plain functions of the rows `X`, the codebook `C` and vectors over the 1024 codes: what both
  programs' results are read as. The literals stay the words that both programs hold.
-/
module

public import proofs.«01_k».proof.Proof.FirstMin

@[expose] public section

noncomputable section

open Idealize.ShloMosaic

namespace Cert.Proof.Spec

open Cert.Proof.FirstMin

/-- The number an f32 word stands for. -/
abbrev lit (w : BitVec 32) : EReal := Ideal.ofBits .f32 w

/-- The squared distance of row `i` to code `j`, expanded. -/
def dist (X : Fin 16384 → Fin 64 → EReal) (C : Fin 1024 → Fin 64 → EReal) (i : Fin 16384) (j : Fin 1024) : EReal :=
  (∑ d, X i d * X i d + ∑ d, C j d * C j d) - lit 0x40000000#32 * ∑ d, X i d * C j d

/-- The encoding: row `i` has its one at the nearest code. -/
def enc (X : Fin 16384 → Fin 64 → EReal) (C : Fin 1024 → Fin 64 → EReal) (i : Fin 16384) (j : Fin 1024) : EReal :=
  hot (dist X C i) j

/-- The quantized rows. -/
def quant (E : Fin 16384 → Fin 1024 → EReal) (C : Fin 1024 → Fin 64 → EReal) (i : Fin 16384) (d : Fin 64) : EReal :=
  ∑ k, E i k * C k d

/-- How many rows take each code. -/
def hist (E : Fin 16384 → Fin 1024 → EReal) (j : Fin 1024) : EReal := ∑ i, E i j

/-- The histogram as a distribution. -/
def probs (E : Fin 16384 → Fin 1024 → EReal) (j : Fin 1024) : EReal := Ideal.div (hist E j) (lit 0x46800000#32)

/-- The sum of the squared errors. -/
def err (Q X : Fin 16384 → Fin 64 → EReal) : EReal := ∑ i, ∑ d, (Q i d - X i d) * (Q i d - X i d)

/-- The row a softmax of `-D / 0.5` takes its exponentials of, and its largest entry. -/
def soft (D : Fin 16384 → Fin 1024 → EReal) (i : Fin 16384) (j : Fin 1024) : EReal := Ideal.div (-D i j) (lit 0x3F000000#32)
def softMax (D : Fin 16384 → Fin 1024 → EReal) (i : Fin 16384) : EReal :=
  max (lit 0xFF800000#32) (Finset.univ.fold max (lit 0xFF800000#32) (soft D i))

/-- The mean over the rows of the softmax. -/
def softMean (D : Fin 16384 → Fin 1024 → EReal) (j : Fin 1024) : EReal :=
  Ideal.div (∑ i, Ideal.div (Ideal.exp (soft D i j - softMax D i)) (∑ k, Ideal.exp (soft D i k - softMax D i))) (lit 0x46800000#32)

/-- A vector clipped from below and divided by its sum. -/
def clip (p : Fin 1024 → EReal) (j : Fin 1024) : EReal := max (lit 0x2B8CBCCC#32) (p j)
def norm (p : Fin 1024 → EReal) (j : Fin 1024) : EReal := Ideal.div (clip p j) (∑ k, clip p k)

/-- The target: a bell over the codes, divided by its clipped sum. -/
def num (j : Fin 1024) : EReal := FloatOps.sitofp (F := Ideal) .f32 (BitVec.ofNat 32 (j : ℕ))
def bell (j : Fin 1024) : EReal :=
  Ideal.exp (lit 0xBF000000#32 * (Ideal.div (num j - lit 0x43FFC000#32) (lit 0x432AAAAB#32)
    * Ideal.div (num j - lit 0x43FFC000#32) (lit 0x432AAAAB#32)))
def target (j : Fin 1024) : EReal := Ideal.div (bell j) (max (lit 0x2B8CBCCC#32) (∑ k, bell k))

/-- The perplexity of a distribution. -/
def entropy (p : Fin 1024 → EReal) : EReal := ∑ j, p j * Ideal.log (p j + lit 0x2EDBE6FF#32)

end Cert.Proof.Spec
-- ==== Proof.KerPay0.lean ====
/-
  The first call's payloads, read at an index.
-/
module

public import proofs.«01_k».proof.Proof.Gen.KernelIdeal.Frame
public import proofs.«01_k».proof.Proof.Spec
public import Idealize.ShloMosaic.Lib.Pointwise

@[expose] public section

set_option maxRecDepth 16384

noncomputable section

namespace Cert.Proof.KerPay0

open Idealize.ShloMosaic Idealize.ShloMosaic.TcCoe Idealize.SL.Sem
open Idealize.ShloMosaic.Pipeline (Dat)
open Cert.KernelIdeal Cert.KernelIdeal.Gen
open Cert.Proof.Spec Cert.Proof.FirstMin

/-- The distance row the first call takes its minimum of, from its blocks. -/
def kd {n : ℕ} (x : Fin n → Fin 64 → EReal) (C : Fin 1024 → Fin 64 → EReal) (xn : Fin n → EReal) (cn : Fin 1024 → EReal)
    (i : Fin n) (j : Fin 1024) : EReal := xn i + cn j - lit 0x40000000#32 * ∑ d, x i d * C j d

theorem lit_top : lit 0x7F800000#32 = ⊤ := by simp [Ideal.ofBits, Ideal.ieee]

theorem sitofp_cmpi (i j : Fin 1024) :
    FloatOps.sitofp (F := Ideal) .f32 (BitVec.setWidth 32 (IntOp.cmpi .eq (BitVec.ofNat 32 (i : ℕ)) (BitVec.ofNat 32 (j : ℕ)))) = if i = j then 1 else 0 := by
  by_cases h : i = j
  · subst h
    simp [IntOp.cmpi, FloatOps.sitofp]
  · have g : ¬ BitVec.ofNat 32 (i : ℕ) = BitVec.ofNat 32 (j : ℕ) := fun e => h ((ofNat_inj ..).1 e)
    have e : (BitVec.ofNat 32 (i : ℕ) == BitVec.ofNat 32 (j : ℕ)) = false := by simpa using g
    simp only [IntOp.cmpi, e]
    simp [FloatOps.sitofp, h]

theorem pay6_apply (v0 : Vec Ideal S512x64 .f32) (v2 : Vec Ideal S1024x64 .f32) (v4 : Vec Ideal S512x1 .f32) (v6 : Vec Ideal S1x1024 .f32)
    (r : Fin 512) (j : Fin 1024) :
    k0_pay6 (F := Ideal) v0 v2 v4 v6 (ix2 r j)
      = hot (kd (fun r d => v0 (ix2 r d)) (fun k d => v2 (ix2 k d)) (fun r => v4 (ix2 r 0)) (fun k => v6 (ix2 0 k)) r) j := by
  pointwise [k0_pay6, k0_pay5]
  have e := fold_minsi (kd (fun r d => v0 (ix2 r d)) (fun k d => v2 (ix2 k d)) (fun r => v4 (ix2 r 0)) (fun k => v6 (ix2 0 k)) r)
    (Finset.univ.fold min (lit 0x7F800000#32) (kd (fun r d => v0 (ix2 r d)) (fun k d => v2 (ix2 k d)) (fun r => v4 (ix2 r 0)) (fun k => v6 (ix2 0 k)) r))
    (by rw [lit_top])
  unfold hot
  rw [← sitofp_cmpi, ← e]
  rfl

theorem pay7_apply (v0 : Vec Ideal S512x64 .f32) (v2 : Vec Ideal S1024x64 .f32) (v4 : Vec Ideal S512x1 .f32) (v6 : Vec Ideal S1x1024 .f32)
    (r : Fin 512) (d : Fin 64) :
    k0_pay7 (F := Ideal) v0 v2 v4 v6 (ix2 r d) = ∑ k, k0_pay6 (F := Ideal) v0 v2 v4 v6 (ix2 r k) * v2 (ix2 k d) := by
  pointwise [k0_pay7]
theorem pay8_apply (v0 : Vec Ideal S512x64 .f32) (v2 : Vec Ideal S1024x64 .f32) (v4 : Vec Ideal S512x1 .f32) (v6 : Vec Ideal S1x1024 .f32)
    (r : Fin 512) (d : Fin 64) :
    k0_pay8 (F := Ideal) v0 v2 v4 v6 (ix2 r d) = k0_pay7 (F := Ideal) v0 v2 v4 v6 (ix2 r d) - v0 (ix2 r d) := by
  pointwise [k0_pay8, k0_pay5]
theorem pay9_apply (v0 : Vec Ideal S512x64 .f32) (v2 : Vec Ideal S1024x64 .f32) (v4 : Vec Ideal S512x1 .f32) (v6 : Vec Ideal S1x1024 .f32)
    (j : Fin 1024) :
    k0_pay9 (F := Ideal) v0 v2 v4 v6 (ix2 0 j) = ∑ r, k0_pay6 (F := Ideal) v0 v2 v4 v6 (ix2 r j) := by
  pointwise [k0_pay9]
theorem pay4_apply (a : Vec Ideal S512x64 .f32) (b : Vec Ideal S1x1 .f32) :
    k0_pay4 (F := Ideal) a b (ix2 0 0) = b (ix2 0 0) + ∑ r, ∑ d, a (ix2 r d) * a (ix2 r d) := by
  pointwise [k0_pay4]
theorem pay3_apply (a b : Vec Ideal S1x1024 .f32) (j : Fin 1024) : k0_pay3 (F := Ideal) a b (ix2 0 j) = b (ix2 0 j) + a (ix2 0 j) := by
  pointwise [k0_pay3]
theorem pay1_apply (j : Fin 1024) : k0_pay1 (F := Ideal) (ix2 0 j) = 0 := by
  pointwise [k0_pay1]
theorem pay2_apply : k0_pay2 (F := Ideal) (ix2 0 0) = 0 := by
  pointwise [k0_pay2]

end Cert.Proof.KerPay0
-- ==== Proof.KerArr0.lean ====
/-
  The first call's points, and the arrays it leaves.
-/
module

public import proofs.«01_k».proof.Proof.KerPay0
public import Idealize.ShloMosaic.Lib.Pipeline.ValueKit

@[expose] public section

set_option maxRecDepth 16384

noncomputable section

namespace Cert.Proof.KerArr0

open Idealize.ShloMosaic Idealize.ShloMosaic.TcCoe Idealize.SL.Sem
open Idealize.ShloMosaic.Pipeline (Dat)
open Cert.KernelIdeal Cert.KernelIdeal.Gen
open Cert.Proof.Spec Cert.Proof.FirstMin

open Cert.Proof.KerPay0

variable (V : (c : Dev nD) → (b : Ref sig .tc) → Buf (Elt Ideal) ((c : Thread nD τ).loc b)) (c : Dev nD)

/-- The windows' block indices. -/
theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] ∧ win0_7.index t = ![0, 0] :=
  (by decide +kernel : ∀ t : Fin grid0.N, _)

/-- Row `r` of point `t`'s block. -/
def row (t : Fin cfg0.N) (r : Fin 512) : Fin 16384 :=
  ⟨t.val * 512 + r.val, by have := t.isLt; have hN : cfg0.N = 32 := N_0; have := r.isLt; omega⟩

/-- The operands' arrays, by coordinates. -/
def aX (i : Fin 16384) (d : Fin 64) : EReal := (V c main_v1 : FVec Ideal S16384x64 .f32) (ix2 i d)
def aC (k : Fin 1024) (d : Fin 64) : EReal := (V c main_arg1 : FVec Ideal S1024x64 .f32) (ix2 k d)
def aXn (i : Fin 16384) : EReal := (V c main_v4 : FVec Ideal S16384x1 .f32) (ix2 i 0)
def aCn (k : Fin 1024) : EReal := (V c main_v7 : FVec Ideal S1x1024 .f32) (ix2 0 k)

theorem blk0 (t : Fin cfg0.N) (r : Fin 512) (d : Fin 64) : iblk0 V c 0 t (ix2 r d) = aX V c (row t r) d := by
  unfold aX row
  blk_ext! [iblk0, idx t]
theorem blk1 (t : Fin cfg0.N) (k : Fin 1024) (d : Fin 64) : iblk0 V c 1 t (ix2 k d) = aC V c k d := by
  unfold aC
  blk_ext! [iblk0, idx t]
theorem blk2 (t : Fin cfg0.N) (r : Fin 512) : iblk0 V c 2 t (ix2 r 0) = aXn V c (row t r) := by
  unfold aXn row
  blk_ext! [iblk0, idx t]
theorem blk3 (t : Fin cfg0.N) (k : Fin 1024) : iblk0 V c 3 t (ix2 0 k) = aCn V c k := by
  unfold aCn
  blk_ext! [iblk0, idx t]

/-- The encoding, the quantized rows, of the operands' arrays. -/
def E (i : Fin 16384) (j : Fin 1024) : EReal := hot (kd (aX V c) (aC V c) (aXn V c) (aCn V c) i) j
def Q (i : Fin 16384) (d : Fin 64) : EReal := quant (E V c) (aC V c) i d

theorem pay6_at (t : Fin cfg0.N) (r : Fin 512) (j : Fin 1024) :
    k0_pay6 (F := Ideal) (iblk0 V c 0 t) (iblk0 V c 1 t) (iblk0 V c 2 t) (iblk0 V c 3 t) (ix2 r j) = E V c (row t r) j := by
  rw [pay6_apply]
  unfold E
  congr 1
  funext k
  unfold kd
  simp only [blk0, blk1, blk2, blk3]
theorem pay7_at (t : Fin cfg0.N) (r : Fin 512) (d : Fin 64) :
    k0_pay7 (F := Ideal) (iblk0 V c 0 t) (iblk0 V c 1 t) (iblk0 V c 2 t) (iblk0 V c 3 t) (ix2 r d) = Q V c (row t r) d := by
  rw [pay7_apply]
  simp only [pay6_at, blk1]
  rfl
theorem pay8_at (t : Fin cfg0.N) (r : Fin 512) (d : Fin 64) :
    k0_pay8 (F := Ideal) (iblk0 V c 0 t) (iblk0 V c 1 t) (iblk0 V c 2 t) (iblk0 V c 3 t) (ix2 r d) = Q V c (row t r) d - aX V c (row t r) d := by
  rw [pay8_apply, pay7_at, blk0]
theorem pay9_at (t : Fin cfg0.N) (j : Fin 1024) :
    k0_pay9 (F := Ideal) (iblk0 V c 0 t) (iblk0 V c 1 t) (iblk0 V c 2 t) (iblk0 V c 3 t) (ix2 0 j) = ∑ r, E V c (row t r) j := by
  rw [pay9_apply]
  simp only [pay6_at]

theorem outs_enc (t : Fin cfg0.N) : (outsAt0 V c t.val t.isLt).1 = k0_pay6 (F := Ideal) (iblk0 V c 0 t) (iblk0 V c 1 t) (iblk0 V c 2 t) (iblk0 V c 3 t) := by
  by_cases h : t.val % 32 = 0
  · rw [outsAt0_A V c t h]
    frame_out
  · rw [outsAt0_B V c t h]
    frame_out
theorem outs_q (t : Fin cfg0.N) : (outsAt0 V c t.val t.isLt).2.1 = k0_pay7 (F := Ideal) (iblk0 V c 0 t) (iblk0 V c 1 t) (iblk0 V c 2 t) (iblk0 V c 3 t) := by
  by_cases h : t.val % 32 = 0
  · rw [outsAt0_A V c t h]
    frame_out
  · rw [outsAt0_B V c t h]
    frame_out

/-- The result arrays, by coordinates. -/
def encV : FVec Ideal S16384x1024 .f32 := fun y => E V c (y 0) (y 1)
def qV : FVec Ideal S16384x64 .f32 := fun y => Q V c (y 0) (y 1)
def histV : FVec Ideal S1x1024 .f32 := fun y => hist (E V c) (y 1)
def errV : FVec Ideal S1x1 .f32 := fun _ => err (Q V c) (aX V c)

theorem emb4 (t : Fin cfg0.N) (r : Fin 512) (j : Fin 1024) : (win0_4.blk t).view.emb (ix2 r j) = ix2 (row t r) j := by
  unfold row
  blk_ext [idx t]
theorem emb5 (t : Fin cfg0.N) (r : Fin 512) (j : Fin 64) : (win0_5.blk t).view.emb (ix2 r j) = ix2 (row t r) j := by
  unfold row
  blk_ext [idx t]
theorem emb6 (t : Fin cfg0.N) (j : Fin 1024) : (win0_6.blk t).view.emb (ix2 0 j) = ix2 0 j := by
  blk_ext [idx t]

theorem enc_arr : (dat0 V c).arrAt 4 cfg0.N = encV V c := by
  refine (dat0 V c).arrAt_eq_of_covers 4 _ (by decide +kernel) fun t hf y => ?_
  blk_simp
  rw [after0_4, outs_enc]
  obtain ⟨r, j, rfl⟩ : ∃ (r : Fin 512) (j : Fin 1024), y = ix2 r j := ⟨y 0, y 1, eq_ix2 y⟩
  rw [pay6_at]
  exact (congrArg (encV V c) (emb4 t r j)).symm
theorem q_arr : (dat0 V c).arrAt 5 cfg0.N = qV V c := by
  refine (dat0 V c).arrAt_eq_of_covers 5 _ (by decide +kernel) fun t hf y => ?_
  blk_simp
  rw [after0_5, outs_q]
  obtain ⟨r, j, rfl⟩ : ∃ (r : Fin 512) (j : Fin 64), y = ix2 r j := ⟨y 0, y 1, eq_ix2 y⟩
  rw [pay7_at]
  exact (congrArg (qV V c) (emb5 t r j)).symm

/-- The last point. -/
abbrev tLast : Fin cfg0.N := ⟨31, by have hN : cfg0.N = 32 := N_0; omega⟩

theorem eq_last (t : Fin cfg0.N) (h : t.val % 32 = 31) : t = tLast := by
  have hN : cfg0.N = 32 := N_0
  have ht := t.isLt
  have e : t.val = 31 := by omega
  exact Fin.ext e

theorem hist_last (j : Fin 1024) : (outsAt0 V c tLast.val tLast.isLt).2.2.1 (ix2 0 j) = ∑ t : Fin cfg0.N, ∑ r, E V c (row t r) j := by
  rw [Pipeline.eq_sum_fin_of_reset_step_apply_last (fun n h => (outsAt0 V c n h).2.2.1) 32 (fun _ => (0 : EReal)) (fun t j => ∑ r, E V c (row t r) (j 1))
    (fun t h j => by
      obtain ⟨k, rfl⟩ : ∃ (k : Fin 1024), j = ix2 0 k := ⟨j 1, (eq_ix2 j).trans (congrArg (ix2 · (j 1)) (Subsingleton.elim (α := Fin 1) _ _))⟩
      rw [outsAt0_A V c t h]
      frame_out
      rw [pay3_apply, pay1_apply, pay9_at]
      rfl)
    (fun t h j => by
      obtain ⟨k, rfl⟩ : ∃ (k : Fin 1024), j = ix2 0 k := ⟨j 1, (eq_ix2 j).trans (congrArg (ix2 · (j 1)) (Subsingleton.elim (α := Fin 1) _ _))⟩
      rw [outsAt0_B V c t h]
      frame_out
      rw [pay3_apply, pay9_at]
      rfl) (le_of_eq N_0) tLast (N_0 : cfg0.N = 32).symm (ix2 0 j), zero_add]
  rfl
theorem err_last : (outsAt0 V c tLast.val tLast.isLt).2.2.2 (ix2 0 0)
    = ∑ t : Fin cfg0.N, ∑ r, ∑ d, (Q V c (row t r) d - aX V c (row t r) d) * (Q V c (row t r) d - aX V c (row t r) d) := by
  have hj : ∀ j : S1x1.Idx, j = ix2 0 0 := fun j => (eq_ix2 j).trans (congrArg₂ ix2 (Subsingleton.elim (α := Fin 1) _ _) (Subsingleton.elim (α := Fin 1) _ _))
  rw [Pipeline.eq_sum_fin_of_reset_step_apply_last (fun n h => (outsAt0 V c n h).2.2.2) 32 (fun _ => (0 : EReal))
    (fun t _ => ∑ r, ∑ d, (Q V c (row t r) d - aX V c (row t r) d) * (Q V c (row t r) d - aX V c (row t r) d))
    (fun t h j => by
      rw [hj j, outsAt0_A V c t h]
      frame_out
      rw [pay4_apply, pay2_apply]
      simp only [pay8_at])
    (fun t h j => by
      rw [hj j, outsAt0_B V c t h]
      frame_out
      rw [pay4_apply]
      simp only [pay8_at]) (le_of_eq N_0) tLast (N_0 : cfg0.N = 32).symm (ix2 0 0), zero_add]

/-- The grid's points and a block's rows are the array's rows. -/
theorem sum_rows (g : Fin 16384 → EReal) : (∑ t : Fin cfg0.N, ∑ r, g (row t r)) = ∑ i, g i :=
  Fin.sum_mul_add_congr (S := cfg0.N) (n := 512) (f := g) (fun _ _ _ => rfl) (by have hN : cfg0.N = 32 := N_0; omega)

theorem hist_arr : (dat0 V c).arrAt 6 cfg0.N = histV V c := by
  refine (dat0 V c).arrAt_eq_of_covers 6 _ (by decide +kernel) fun t hf j => ?_
  have ht : t = tLast := eq_last t ((flush0_6 t).mp hf)
  subst ht
  blk_simp
  rw [after0_6]
  obtain ⟨k, rfl⟩ : ∃ (k : Fin 1024), j = ix2 0 k := ⟨j 1, (eq_ix2 j).trans (congrArg (ix2 · (j 1)) (Subsingleton.elim (α := Fin 1) _ _))⟩
  refine (hist_last V c k).trans ((sum_rows fun i => E V c i k).trans ?_)
  exact (congrArg (histV V c) (emb6 tLast k)).symm
theorem err_arr : (dat0 V c).arrAt 7 cfg0.N = errV V c := by
  refine (dat0 V c).arrAt_eq_of_covers 7 _ (by decide +kernel) fun t hf j => ?_
  have ht : t = tLast := eq_last t ((flush0_7 t).mp hf)
  subst ht
  have hj : j = ix2 0 0 := (eq_ix2 j).trans (congrArg₂ ix2 (Subsingleton.elim (α := Fin 1) _ _) (Subsingleton.elim (α := Fin 1) _ _))
  blk_simp
  rw [after0_7]
  subst hj
  refine (err_last V c).trans ((sum_rows fun i => ∑ d, (Q V c i d - aX V c i d) * (Q V c i d - aX V c i d)).trans ?_)
  rfl

end Cert.Proof.KerArr0
-- ==== Proof.Dual.lean ====
/-
  The dual problem's quantities: the score matrix, its rows' soft maxima, one ascent step and the objective, in the
  kernel's form and in the reference's.
-/
module

public import proofs.«01_k».proof.Proof.Spec

@[expose] public section

noncomputable section

namespace Cert.Proof.Dual

open Idealize.ShloMosaic Cert.Proof.Spec

variable (M : Fin 1024 → Fin 1024 → EReal) (src tgt lt φ : Fin 1024 → EReal) (κ : EReal)

/-- A row's largest entry, its exponentials below it and their sum. -/
def rowMax (i : Fin 1024) : EReal := Finset.univ.fold max (lit 0xFF800000#32) (M i)
def rowExp (i j : Fin 1024) : EReal := Ideal.exp (M i j - rowMax M i)
def rowSum (i : Fin 1024) : EReal := ∑ j, rowExp M i j

/-- The distance of two codes, as the kernel and as the reference take it. -/
def gap (i j : Fin 1024) : EReal :=
  FloatOps.sitofp (F := Ideal) .f32 (IntOp.absi (IntOp.subi (BitVec.ofNat 32 (i : ℕ)) (BitVec.ofNat 32 (j : ℕ))))
def apart (i j : Fin 1024) : EReal := max (num i - num j) (-(num i - num j))

/-- The kernel's scores, marginal, step and objective; `κ` is the reciprocal of the smoothing. -/
def kMat (i j : Fin 1024) : EReal := (lt j + φ j * κ) - gap i j * κ
def kMarg (j : Fin 1024) : EReal := ∑ i, Ideal.div (src i) (rowSum M i) * rowExp M i j
def kStep (j : Fin 1024) : EReal := φ j + lit 0x3F000000#32 * (tgt j - kMarg (kMat lt φ κ) src j)
def kObj : EReal := (∑ i, src i * (lit 0xBD4CCCCD#32 * (rowMax M i + Ideal.log (rowSum M i)))) + ∑ j, tgt j * φ j

/-- The reference's. -/
def rMat (i j : Fin 1024) : EReal := lt j + Ideal.div (-apart i j + φ j) (lit 0x3D4CCCCD#32)
def rMarg (j : Fin 1024) : EReal :=
  ∑ i, Ideal.div (Ideal.div (lit 0xBD4CCCCD#32 * (src i * 1)) (rowSum M i) * rowExp M i j) (lit 0x3D4CCCCD#32)
def rStep (j : Fin 1024) : EReal := φ j + lit 0x3F000000#32 * (tgt j * 1 + rMarg (rMat lt φ) src j)
def rObj : EReal := (∑ i, src i * (lit 0xBD4CCCCD#32 * (Ideal.log (rowSum M i) + rowMax M i))) + ∑ j, tgt j * φ j

/-- The loss: the mean squared error, a quarter of it, and the objective. -/
def mse (e : EReal) : EReal := Ideal.div e (lit 0x49800000#32)
def loss (e obj : EReal) : EReal := (mse e + lit 0x3E800000#32 * mse e) + obj

end Cert.Proof.Dual

end
-- ==== Proof.KerPay1.lean ====
/-
  The second call's payloads, read at an index.
-/
module

public import proofs.«01_k».proof.Proof.Gen.KernelIdeal.Frame
public import proofs.«01_k».proof.Proof.Spec
public import Idealize.ShloMosaic.Lib.Pointwise
public import proofs.«01_k».proof.Proof.Dual

@[expose] public section

set_option maxRecDepth 16384

noncomputable section

namespace Cert.Proof.KerPay1

open Idealize.ShloMosaic Idealize.ShloMosaic.TcCoe Idealize.SL.Sem
open Idealize.ShloMosaic.Pipeline (Dat)
open Cert.KernelIdeal Cert.KernelIdeal.Gen
open Cert.Proof.Spec Cert.Proof.FirstMin
open Cert.Proof.Dual

/-- The smoothing's reciprocal as the kernel names it. -/
def inv : EReal := (Named.named κ "inv_eps" 0x41A00000#32 : Ideal .f32)

theorem one_idx (f : Fin 1 → EReal) : ∑ x, f x = f 0 := Fin.sum_univ_one f

theorem pay2_apply (v : Vec Ideal S1024x1 .f32) (i : Fin 1024) : k1_pay2 (F := Ideal) v (ix2 i 0) = v (ix2 i 0) := by
  pointwise [k1_pay2]
theorem pay3_apply (v : Vec Ideal S1x1024 .f32) (j : Fin 1024) : k1_pay3 (F := Ideal) v (ix2 0 j) = v (ix2 0 j) * lit 0x38800000#32 := by
  pointwise [k1_pay3]
theorem pay4_apply (v : Vec Ideal S1x1024 .f32) :
    k1_pay4 (F := Ideal) v (ix2 0 0) = Ideal.exp (0 - entropy fun j => v (ix2 0 j) * lit 0x38800000#32) := by
  pointwise [k1_pay4, k1_pay3]
  simp only [one_idx]
  rfl
theorem pay5_apply (j : Fin 1024) : k1_pay5 (F := Ideal) (ix2 0 j) = target j := by
  pointwise [k1_pay5]
  simp only [one_idx]
  rfl
theorem pay6_apply (v : FVec Ideal S1x1024 .f32) (j : Fin 1024) : k1_pay6 (F := Ideal) v (ix2 0 j) = norm (fun k => v (ix2 0 k)) j := by
  pointwise [k1_pay6]
  simp only [one_idx]
  rfl
theorem pay7_apply (v : FVec Ideal S1x1024 .f32) (j : Fin 1024) :
    k1_pay7 (F := Ideal) v (ix2 0 j) = Ideal.log (clip (norm fun k => v (ix2 0 k)) j) := by
  have h := pay6_apply v j
  pointwise [k1_pay7]
  rw [h]
  rfl
theorem pay8_apply (v : FVec Ideal S1024x1 .f32) (i : Fin 1024) :
    k1_pay8 (F := Ideal) v (ix2 i 0) = norm (norm fun k => v (ix2 k 0) * lit 0x38800000#32) i := by
  pointwise [k1_pay8]
  simp only [one_idx]
  rfl
theorem pay9_apply (i j : Fin 1024) : k1_pay9 (F := Ideal) (ix2 i j) = gap i j * inv := by
  pointwise [k1_pay9]
  rfl
theorem pay10_apply (j : Fin 1024) : k1_pay10 (F := Ideal) (ix2 0 j) = 0 := by
  pointwise [k1_pay10]
theorem pay12_apply (v φ : FVec Ideal S1x1024 .f32) (i j : Fin 1024) :
    k1_pay12 (F := Ideal) v φ (ix2 i j) = kMat (fun j => Ideal.log (clip (norm fun k => v (ix2 0 k)) j)) (fun j => φ (ix2 0 j)) inv i j := by
  pointwise [k1_pay12]
  rw [pay7_apply, pay9_apply]
  rfl
theorem pay11_apply (s : FVec Ideal S1024x1 .f32) (v φ : FVec Ideal S1x1024 .f32) (j : Fin 1024) :
    k1_pay11 (F := Ideal) s v φ (ix2 0 j)
      = kStep (norm (norm fun k => s (ix2 k 0) * lit 0x38800000#32)) (norm fun k => v (ix2 0 k))
          (fun j => Ideal.log (clip (norm fun k => v (ix2 0 k)) j)) (fun j => φ (ix2 0 j)) inv j := by
  pointwise [k1_pay11]
  simp only [pay6_apply, pay7_apply, pay8_apply, pay9_apply]
  rfl
theorem pay1_apply (t : FVec Ideal S1x1024 .f32) (s : FVec Ideal S1024x1 .f32) (φ : FVec Ideal S1x1024 .f32) (M : FVec Ideal S1024x1024 .f32)
    (e : Vec Ideal S1x1 .f32) :
    k1_pay1 (F := Ideal) t s φ M e (ix2 0 0)
      = loss (e (ix2 0 0)) (kObj (fun i j => M (ix2 i j)) (fun i => s (ix2 i 0)) (fun j => t (ix2 0 j)) fun j => φ (ix2 0 j)) := by
  pointwise [k1_pay1]
  simp only [one_idx]
  rfl

end Cert.Proof.KerPay1
-- ==== Proof.KerArr1.lean ====
/-
  The second call's one point, and the arrays it leaves.
-/
module

public import proofs.«01_k».proof.Proof.KerPay1
public import Idealize.ShloMosaic.Lib.Pipeline.ValueKit
public import Idealize.ShloMosaic.Lib.Pipeline.ReadBack

@[expose] public section

set_option maxRecDepth 16384

noncomputable section

namespace Cert.Proof.KerArr1

open Idealize.ShloMosaic Idealize.ShloMosaic.TcCoe Idealize.SL.Sem
open Idealize.ShloMosaic.Pipeline (Dat)
open Cert.KernelIdeal Cert.KernelIdeal.Gen
open Cert.Proof.Spec Cert.Proof.FirstMin
open Cert.Proof.Dual Cert.Proof.KerPay1

variable (V : (c : Dev nD) → (b : Ref sig .tc) → Buf (Elt Ideal) ((c : Thread nD τ).loc b)) (c : Dev nD)

/-- The windows' block indices. -/
theorem idx : ∀ t : Fin cfg1.N, win1_0.index t = ![0, 0] ∧ win1_1.index t = ![0, 0] ∧ win1_2.index t = ![0, 0] ∧ win1_3.index t = ![0, 0]
    ∧ win1_4.index t = ![0, 0] ∧ win1_5.index t = ![0, 0] ∧ win1_6.index t = ![0, 0] :=
  (by decide +kernel : ∀ t : Fin grid1.N, _)

/-- The operands' arrays, by coordinates. -/
def aH (k : Fin 1024) : EReal := (V c main_v8_2 : FVec Ideal S1x1024 .f32) (ix2 0 k)
def aHc (k : Fin 1024) : EReal := (V c main_v9 : FVec Ideal S1024x1 .f32) (ix2 k 0)
def aErr : EReal := (V c main_v8_3 : FVec Ideal S1x1 .f32) (ix2 0 0)

theorem blk0 (t : Fin cfg1.N) (k : Fin 1024) : iblk1 V c 0 t (ix2 0 k) = aH V c k := by
  unfold aH
  blk_ext! [iblk1, idx t]
theorem blk1 (t : Fin cfg1.N) (k : Fin 1024) : iblk1 V c 1 t (ix2 k 0) = aHc V c k := by
  unfold aHc
  blk_ext! [iblk1, idx t]
theorem blk2 (t : Fin cfg1.N) : iblk1 V c 2 t (ix2 0 0) = aErr V c := by
  unfold aErr
  blk_ext! [iblk1, idx t]

/-- The dual variable after `k` trips. -/
def src (k : Fin 1024) : EReal := norm (norm fun k => aHc V c k * lit 0x38800000#32) k
def lt (k : Fin 1024) : EReal := Ideal.log (clip (norm target) k)
def dual (k : ℕ) : Fin 1024 → EReal := (fun φ => kStep (src V c) (norm target) lt φ inv)^[k] fun _ => 0

/-- The arrays the call leaves. -/
def probV : FVec Ideal S1x1024 .f32 := fun y => aH V c (y 1) * lit 0x38800000#32
def tgtV : FVec Ideal S1x1024 .f32 := fun y => target (y 1)
def perpV : FVec Ideal S1x1 .f32 := fun _ => Ideal.exp (0 - entropy fun j => aH V c j * lit 0x38800000#32)
def lossV : FVec Ideal S1x1 .f32 := fun _ =>
  loss (aErr V c) (kObj (kMat lt (dual V c 10) inv) (src V c) (norm target) (dual V c 10))

theorem row_idx (y : S1x1024.Idx) : ∃ k : Fin 1024, y = ix2 0 k :=
  ⟨y 1, (eq_ix2 y).trans (congrArg (ix2 · (y 1)) (Subsingleton.elim (α := Fin 1) _ _))⟩
theorem one_pt (y : S1x1.Idx) : y = ix2 0 0 :=
  (eq_ix2 y).trans (congrArg₂ ix2 (Subsingleton.elim (α := Fin 1) _ _) (Subsingleton.elim (α := Fin 1) _ _))

theorem emb5 (t : Fin cfg1.N) (k : Fin 1024) : (win1_5.blk t).view.emb (ix2 0 k) = ix2 0 k := by
  blk_ext [idx t]
theorem emb6 (t : Fin cfg1.N) (k : Fin 1024) : (win1_6.blk t).view.emb (ix2 0 k) = ix2 0 k := by
  blk_ext [idx t]

theorem prob_arr : (dat1 V c).arrAt 5 cfg1.N = probV V c := by
  refine (dat1 V c).arrAt_eq_of_covers 5 _ (by decide +kernel) fun t hf j => ?_
  obtain ⟨k, rfl⟩ := row_idx j
  blk_simp
  rw [after1_5]
  unfold outsAt1
  frame_out
  simp only [read_unread_whole]
  rw [pay3_apply, blk0]
  exact (congrArg (probV V c) (emb5 t k)).symm
theorem tgt_arr : (dat1 V c).arrAt 6 cfg1.N = tgtV := by
  refine (dat1 V c).arrAt_eq_of_covers 6 _ (by decide +kernel) fun t hf j => ?_
  obtain ⟨k, rfl⟩ := row_idx j
  blk_simp
  rw [after1_6]
  unfold outsAt1
  frame_out
  rw [pay5_apply]
  exact (congrArg tgtV (emb6 t k)).symm
theorem perp_arr : (dat1 V c).arrAt 4 cfg1.N = perpV V c := by
  refine (dat1 V c).arrAt_eq_of_covers 4 _ (by decide +kernel) fun t hf j => ?_
  have hj := one_pt j
  subst hj
  blk_simp
  rw [after1_4]
  unfold outsAt1
  frame_out
  simp only [read_unread_whole]
  rw [pay4_apply]
  simp only [blk0]
  rfl

/-- The second operand's block, cast to its own shape. -/
theorem pay2_at (t : Fin cfg1.N) (k : Fin 1024) : k1_pay2 (F := Ideal) (iblk1 V c 1 t) (ix2 k 0) = aHc V c k := by
  rw [pay2_apply, blk1]

/-- The loop's trips are one step taken ten times. -/
theorem fold_iter (s : FVec Ideal S1024x1 .f32) :
    Scf.fold (n := k1_t1_loop.trips) (fun _ φ => k1_pay11 (F := Ideal) s (k1_pay5 (F := Ideal)) φ) (k1_pay10 (F := Ideal))
      = (k1_pay11 (F := Ideal) s (k1_pay5 (F := Ideal)))^[10] (k1_pay10 (F := Ideal)) := by
  rw [Scf.fold_eq, List.foldl_const, List.length_finRange]
  rfl
theorem iter_at (t : Fin cfg1.N) (n : ℕ) (j : Fin 1024) :
    (k1_pay11 (F := Ideal) (k1_pay2 (F := Ideal) (iblk1 V c 1 t)) (k1_pay5 (F := Ideal)))^[n] (k1_pay10 (F := Ideal)) (ix2 0 j) = dual V c n j := by
  induction n generalizing j with
  | zero => exact pay10_apply j
  | succ n ih =>
    unfold dual at ih ⊢
    rw [Function.iterate_succ_apply', Function.iterate_succ_apply', pay11_apply]
    simp only [pay2_at, pay5_apply, ih]
    rfl

theorem loss_arr : (dat1 V c).arrAt 3 cfg1.N = lossV V c := by
  refine (dat1 V c).arrAt_eq_of_covers 3 _ (by decide +kernel) fun t hf j => ?_
  have hj := one_pt j
  subst hj
  blk_simp
  rw [after1_3]
  unfold outsAt1
  frame_out
  simp only [read_unread_whole]
  rw [fold_iter, pay1_apply, blk2]
  simp only [pay12_apply, pay6_apply, pay8_apply, pay2_at, pay5_apply, iter_at]
  rfl

end Cert.Proof.KerArr1
-- ==== Proof.KerFinal.lean ====
/-
  What the kernel's run leaves, of its arguments.
-/
module

public import proofs.«01_k».proof.Proof.KerArr0
public import proofs.«01_k».proof.Proof.KerArr1
public import Idealize.ShloMosaic.Lib.StableHlo.ReadAt
public import Idealize.ShloMosaic.Lib.StableHlo.RunRead

@[expose] public section

set_option maxRecDepth 16384

noncomputable section

namespace Cert.Proof.KerFinal

open Idealize.ShloMosaic Idealize.ShloMosaic.TcCoe Idealize.SL.Sem
open Idealize.ShloMosaic.Pipeline (Dat)
open Cert.KernelIdeal Cert.KernelIdeal.Gen
open Cert.Proof.Spec Cert.Proof.FirstMin
open Cert.Proof.Dual

/-- The inputs with the channels last, as rows of 64 channels, and the quantized output, as the kernel's host composes them. -/
def lastK (a : FVec Ideal S16x64x32x32 .f32) : FVec Ideal S16x32x32x64 .f32 :=
  transpose S16x32x32x64 [0, 2, 3, 1] a transposes_S16x64x32x32_S16x32x32x64_0_2_3_1
def rowsK (a : FVec Ideal S16x64x32x32 .f32) : FVec Ideal S16384x64 .f32 :=
  shapeCast S16384x64 (lastK a) shapeCasts_S16x32x32x64_S16384x64
def outK (a : FVec Ideal S16x32x32x64 .f32) (q : FVec Ideal S16384x64 .f32) : FVec Ideal S16x64x32x32 .f32 :=
  transpose S16x64x32x32 [0, 3, 1, 2] (addf a (subf (shapeCast S16x32x32x64 q shapeCasts_S16384x64_S16x32x32x64) a))
    transposes_S16x32x32x64_S16x64x32x32_0_3_1_2
def rowNormK (x : FVec Ideal S16384x64 .f32) : FVec Ideal S16384x1 .f32 :=
  broadcastInDim S16384x1 ![0] bcast_S16384_S16384x1_0
    (Host.reduceAdd (mulf x x) (constant S_ .f32 0x00000000#32) reducesTo_S16384x64_S16384_d1 h_S_)
def codeNormK (x : FVec Ideal S1024x64 .f32) : FVec Ideal S1x1024 .f32 :=
  broadcastInDim S1x1024 ![1] bcast_S1024_S1x1024_1
    (Host.reduceAdd (mulf x x) (constant S_ .f32 0x00000000#32) reducesTo_S1024x64_S1024_d1 h_S_)
def turnK (x : FVec Ideal S1x1024 .f32) : FVec Ideal S1024x1 .f32 := transpose S1024x1 [1, 0] x transposes_S1x1024_S1024x1_1_0
def pointK (x : FVec Ideal S1x1 .f32) : FVec Ideal S_ .f32 := shapeCast S_ x shapeCasts_S1x1_S_
def flatK (x : FVec Ideal S1x1024 .f32) : FVec Ideal S1024 .f32 := shapeCast S1024 x shapeCasts_S1x1024_S1024

theorem rowNormK_apply (x : FVec Ideal S16384x64 .f32) (i : Fin 16384) : rowNormK x (ix2 i 0) = ∑ d, x (ix2 i d) * x (ix2 i d) := by
  pointwise [rowNormK]
theorem codeNormK_apply (x : FVec Ideal S1024x64 .f32) (k : Fin 1024) : codeNormK x (ix2 0 k) = ∑ d, x (ix2 k d) * x (ix2 k d) := by
  pointwise [codeNormK]
theorem turnK_apply (x : FVec Ideal S1x1024 .f32) (k : Fin 1024) : turnK x (ix2 k 0) = x (ix2 0 k) := by
  pointwise [turnK]
theorem pointK_apply (x : FVec Ideal S1x1 .f32) : pointK x ix0 = x (ix2 0 0) := by
  pointwise [pointK]
theorem flatK_apply (x : FVec Ideal S1x1024 .f32) (k : Fin 1024) : flatK x (ix1 k) = x (ix2 0 k) := by
  pointwise [flatK]

section Host
variable (V : Valuation τ sig (Elt Ideal))
theorem h0_v0 : StableHlo.after hostOps0 V (Proc.devRef .tc main_v0) = lastK (V (Proc.devRef .tc main_arg0)) := by
  after_reads_simp
  rfl
theorem h0_v1 : StableHlo.after hostOps0 V (Proc.devRef .tc main_v1) = rowsK (V (Proc.devRef .tc main_arg0)) := by
  after_reads_simp
  rfl
theorem h0_v4 : StableHlo.after hostOps0 V (Proc.devRef .tc main_v4) = rowNormK (rowsK (V (Proc.devRef .tc main_arg0))) := by
  after_reads_simp
  rfl
theorem h0_v7 : StableHlo.after hostOps0 V (Proc.devRef .tc main_v7) = codeNormK (V (Proc.devRef .tc main_arg1)) := by
  after_reads_simp
  rfl
theorem h1_v9 : StableHlo.after hostOps1 V (Proc.devRef .tc main_v9) = turnK (V (Proc.devRef .tc main_v8_2)) := by
  after_reads_simp
  rfl
theorem h2_v14 : StableHlo.after hostOps2 V (Proc.devRef .tc main_v14) = outK (V (Proc.devRef .tc main_v0)) (V (Proc.devRef .tc main_v8_1)) := by
  after_reads_simp
  rfl
theorem h2_v15 : StableHlo.after hostOps2 V (Proc.devRef .tc main_v15) = pointK (V (Proc.devRef .tc main_v10_0)) := by
  after_reads_simp
  rfl
theorem h2_v16 : StableHlo.after hostOps2 V (Proc.devRef .tc main_v16) = pointK (V (Proc.devRef .tc main_v10_1)) := by
  after_reads_simp
  rfl
theorem h2_v17 : StableHlo.after hostOps2 V (Proc.devRef .tc main_v17) = flatK (V (Proc.devRef .tc main_v10_2)) := by
  after_reads_simp
  rfl
theorem h2_v18 : StableHlo.after hostOps2 V (Proc.devRef .tc main_v18) = flatK (V (Proc.devRef .tc main_v10_3)) := by
  after_reads_simp
  rfl
end Host

variable (m : (ℓ : Loc nD τ sig) → Buf (Elt Ideal) ℓ) (ρ : Dev nD → PrngReg) (c : Dev nD)

/-- The arguments. -/
def a0 : FVec Ideal S16x64x32x32 .f32 := m ((c : Thread nD τ).loc main_arg0)
def a1 : FVec Ideal S1024x64 .f32 := m ((c : Thread nD τ).loc main_arg1)
def X (i : Fin 16384) (d : Fin 64) : EReal := rowsK (a0 m c) (ix2 i d)
def C (k : Fin 1024) (d : Fin 64) : EReal := a1 m c (ix2 k d)

/-- The first call's operands. -/
theorem aX_eq : KerArr0.aX (V1 m ρ) c = X m c := by
  funext i d
  exact congrFun (h0_v1 (W0 m ρ c)) (ix2 i d)
theorem aC_eq : KerArr0.aC (V1 m ρ) c = C m c := by
  funext i d
  exact congrFun (W1_args m ρ c main_arg1 (by decide)) (ix2 i d)
theorem aXn_eq (i : Fin 16384) : KerArr0.aXn (V1 m ρ) c i = ∑ d, X m c i d * X m c i d :=
  (congrFun (h0_v4 (W0 m ρ c)) (ix2 i 0)).trans (rowNormK_apply _ i)
theorem aCn_eq (k : Fin 1024) : KerArr0.aCn (V1 m ρ) c k = ∑ d, C m c k d * C m c k d :=
  (congrFun (h0_v7 (W0 m ρ c)) (ix2 0 k)).trans (codeNormK_apply _ k)
theorem E_eq : KerArr0.E (V1 m ρ) c = enc (X m c) (C m c) := by
  funext i j
  have h : KerPay0.kd (X m c) (C m c) (KerArr0.aXn (V1 m ρ) c) (KerArr0.aCn (V1 m ρ) c) i = Spec.dist (X m c) (C m c) i := by
    funext k
    simp only [KerPay0.kd, Spec.dist]
    rw [aXn_eq, aCn_eq]
  simp only [KerArr0.E, enc]
  rw [aX_eq, aC_eq, h]
theorem Q_eq : KerArr0.Q (V1 m ρ) c = quant (enc (X m c) (C m c)) (C m c) := by
  unfold KerArr0.Q
  rw [E_eq, aC_eq]

/-- The buffers after the first call. -/
theorem w2_enc : W2 m ρ c (Proc.devRef .tc main_v8_0) = KerArr0.encV (V1 m ρ) c := (W2_arr m ρ c 4).trans (KerArr0.enc_arr _ c)
theorem w2_q : W2 m ρ c (Proc.devRef .tc main_v8_1) = KerArr0.qV (V1 m ρ) c := (W2_arr m ρ c 5).trans (KerArr0.q_arr _ c)
theorem w2_hist : W2 m ρ c (Proc.devRef .tc main_v8_2) = KerArr0.histV (V1 m ρ) c := (W2_arr m ρ c 6).trans (KerArr0.hist_arr _ c)
theorem w2_err : W2 m ρ c (Proc.devRef .tc main_v8_3) = KerArr0.errV (V1 m ρ) c := (W2_arr m ρ c 7).trans (KerArr0.err_arr _ c)

/-- The second call's operands. -/
theorem aH_eq : KerArr1.aH (V3 m ρ) c = hist (enc (X m c) (C m c)) := by
  funext k
  rw [← E_eq m ρ c]
  exact congrFun ((W3_of m ρ c main_v8_2 (by decide)).trans (w2_hist m ρ c)) (ix2 0 k)
theorem aHc_eq : KerArr1.aHc (V3 m ρ) c = hist (enc (X m c) (C m c)) := by
  funext k
  rw [← E_eq m ρ c]
  exact (congrFun ((h1_v9 (W2 m ρ c)).trans (congrArg turnK (w2_hist m ρ c))) (ix2 k 0)).trans (turnK_apply _ k)
theorem aErr_eq : KerArr1.aErr (V3 m ρ) c = err (quant (enc (X m c) (C m c)) (C m c)) (X m c) := by
  rw [← Q_eq m ρ c, ← aX_eq m ρ c]
  exact congrFun ((W3_of m ρ c main_v8_3 (by decide)).trans (w2_err m ρ c)) (ix2 0 0)

/-- The results. -/
def prob (j : Fin 1024) : EReal := hist (enc (X m c) (C m c)) j * lit 0x38800000#32
def dual : Fin 1024 → EReal := (fun φ => kStep (norm (norm (prob m c))) (norm target) KerArr1.lt φ KerPay1.inv)^[10] fun _ => 0
theorem src_eq : KerArr1.src (V3 m ρ) c = norm (norm (prob m c)) := by
  funext k
  unfold KerArr1.src
  rw [aHc_eq]
  rfl
theorem dual_eq : KerArr1.dual (V3 m ρ) c 10 = dual m c := by
  unfold KerArr1.dual
  rw [src_eq]
  rfl

def encR : FVec Ideal S16384x1024 .f32 := fun y => enc (X m c) (C m c) (y 0) (y 1)
def quantR : FVec Ideal S16384x64 .f32 := fun y => quant (enc (X m c) (C m c)) (C m c) (y 0) (y 1)
theorem encV_eq : KerArr0.encV (V1 m ρ) c = encR m c := by
  funext y
  exact congrFun (congrFun (E_eq m ρ c) (y 0)) (y 1)
theorem qV_eq : KerArr0.qV (V1 m ρ) c = quantR m c := by
  funext y
  exact congrFun (congrFun (Q_eq m ρ c) (y 0)) (y 1)

theorem r_enc : W5 m ρ c (Proc.devRef .tc main_v8_0) = encR m c := by
  rw [W5_of m ρ c main_v8_0 (by decide), W4_of_ne m ρ c main_v8_0 (by decide), W3_of m ρ c main_v8_0 (by decide), w2_enc, encV_eq]
theorem r_out : W5 m ρ c (Proc.devRef .tc main_v14)
    = outK (lastK (a0 m c)) (quantR m c) := by
  have e0 : W4 m ρ c (Proc.devRef .tc main_v0) = lastK (a0 m c) := by
    rw [W4_of_ne m ρ c main_v0 (by decide), W3_of m ρ c main_v0 (by decide), W2_of_ne m ρ c main_v0 (by decide)]
    exact h0_v0 (W0 m ρ c)
  have e1 : W4 m ρ c (Proc.devRef .tc main_v8_1) = quantR m c := by
    rw [W4_of_ne m ρ c main_v8_1 (by decide), W3_of m ρ c main_v8_1 (by decide), w2_q, qV_eq]
  rw [← e0, ← e1]
  exact h2_v14 (W4 m ρ c)
theorem r_loss : (W5 m ρ c (Proc.devRef .tc main_v15) : FVec Ideal S_ .f32) ix0
    = loss (err (quant (enc (X m c) (C m c)) (C m c)) (X m c))
        (kObj (kMat KerArr1.lt (dual m c) KerPay1.inv) (norm (norm (prob m c))) (norm target) (dual m c)) := by
  have e : W4 m ρ c (Proc.devRef .tc main_v10_0) = KerArr1.lossV (V3 m ρ) c := (W4_arr m ρ c 3).trans (KerArr1.loss_arr _ c)
  refine (congrFun ((h2_v15 (W4 m ρ c)).trans (congrArg pointK e)) ix0).trans ((pointK_apply _).trans ?_)
  unfold KerArr1.lossV
  rw [aErr_eq, src_eq, dual_eq]
theorem r_perp : (W5 m ρ c (Proc.devRef .tc main_v16) : FVec Ideal S_ .f32) ix0 = Ideal.exp (0 - entropy (prob m c)) := by
  have e : W4 m ρ c (Proc.devRef .tc main_v10_1) = KerArr1.perpV (V3 m ρ) c := (W4_arr m ρ c 4).trans (KerArr1.perp_arr _ c)
  refine (congrFun ((h2_v16 (W4 m ρ c)).trans (congrArg pointK e)) ix0).trans ((pointK_apply _).trans ?_)
  unfold KerArr1.perpV
  rw [aH_eq]
  rfl
theorem r_prob (j : Fin 1024) : (W5 m ρ c (Proc.devRef .tc main_v17) : FVec Ideal S1024 .f32) (ix1 j) = prob m c j := by
  have e : W4 m ρ c (Proc.devRef .tc main_v10_2) = KerArr1.probV (V3 m ρ) c := (W4_arr m ρ c 5).trans (KerArr1.prob_arr _ c)
  refine (congrFun ((h2_v17 (W4 m ρ c)).trans (congrArg flatK e)) (ix1 j)).trans ((flatK_apply _ j).trans ?_)
  unfold KerArr1.probV
  rw [aH_eq]
  rfl
theorem r_tgt (j : Fin 1024) : (W5 m ρ c (Proc.devRef .tc main_v18) : FVec Ideal S1024 .f32) (ix1 j) = target j := by
  have e : W4 m ρ c (Proc.devRef .tc main_v10_3) = KerArr1.tgtV := (W4_arr m ρ c 6).trans (KerArr1.tgt_arr _ c)
  exact (congrFun ((h2_v18 (W4 m ρ c)).trans (congrArg flatK e)) (ix1 j)).trans (flatK_apply _ j)

end Cert.Proof.KerFinal
-- ==== Proof.RefSoft.lean ====
/-
  The reference's softmax and its mean, read at an index.
-/
module

public import proofs.«01_k».proof.Proof.RefRun
public import proofs.«01_k».proof.Proof.Spec
public import Idealize.ShloMosaic.Lib.StableHlo.ReadAt
public import Idealize.ShloMosaic.Lib.Pointwise

@[expose] public section

set_option maxRecDepth 16384

noncomputable section

namespace Cert.Proof.RefSoft

open Idealize.ShloMosaic Idealize.ShloMosaic.TcCoe Idealize.ShloMosaic.StableHlo Idealize.SL.Sem
open Cert.ReferenceIdeal Cert.ReferenceIdeal.Gen Cert.ReferenceIdeal.Value
open Cert.Proof.Spec Cert.Proof.FirstMin

variable (V : Valuation τ sig (Elt Ideal))

/-- A quotient of the encodings' column sums, and the softmax's pieces, as the reference composes them. -/
def probsV (E : FVec Ideal S16384x1024 .f32) : FVec Ideal S1024 .f32 :=
  Host.divf (Host.reduceAdd E (constant S_ .f32 0x00000000#32) reducesTo_S16384x1024_S1024_d0 h_S_)
    (broadcastInDim S1024 ![] bcast_S_S1024 (constant S_ .f32 0x46800000#32))
def softV (D : FVec Ideal S16384x1024 .f32) : FVec Ideal S16384x1024 .f32 :=
  Host.divf (Host.negf D) (broadcastInDim S16384x1024 ![] bcast_S_S16384x1024 (constant S_ .f32 0x3F000000#32))
def rowMaxV (Z : FVec Ideal S16384x1024 .f32) : FVec Ideal S16384 .f32 :=
  Host.reduce FloatOps.maximumf Z (constant S_ .f32 0xFF800000#32) reducesTo_S16384x1024_S16384_d1 h_S_
def boundV (M : FVec Ideal S16384 .f32) : FVec Ideal S16384 .f32 :=
  maximumf (broadcastInDim S16384 ![] bcast_S_S16384 (constant S_ .f32 0xFF800000#32)) M
def colV (M : FVec Ideal S16384 .f32) : FVec Ideal S16384x1024 .f32 :=
  broadcastInDim S16384x1024 ![0, 1] bcast_S16384x1_S16384x1024_0_1 (broadcastInDim S16384x1 ![0] bcast_S16384_S16384x1_0 M)
def expV (Z M : FVec Ideal S16384x1024 .f32) : FVec Ideal S16384x1024 .f32 := Host.exp (subf Z M)
def rowSumV (X : FVec Ideal S16384x1024 .f32) : FVec Ideal S16384 .f32 :=
  Host.reduceAdd X (constant S_ .f32 0x00000000#32) reducesTo_S16384x1024_S16384_d1 h_S_
def softExpV (Z : FVec Ideal S16384x1024 .f32) : FVec Ideal S16384x1024 .f32 := expV Z (colV (boundV (rowMaxV Z)))
def softDivV (X : FVec Ideal S16384x1024 .f32) : FVec Ideal S16384x1024 .f32 := Host.divf X (colV (rowSumV X))
def softMeanV (D : FVec Ideal S16384x1024 .f32) : FVec Ideal S1024 .f32 := probsV (softDivV (softExpV (softV D)))

theorem probsV_apply (E : FVec Ideal S16384x1024 .f32) (j : Fin 1024) : probsV E (ix1 j) = probs (fun i k => E (ix2 i k)) j := by
  pointwise [probsV]
  rfl
theorem softV_apply (D : FVec Ideal S16384x1024 .f32) (i : Fin 16384) (j : Fin 1024) : softV D (ix2 i j) = soft (fun i k => D (ix2 i k)) i j := by
  pointwise [softV]
  rfl
theorem rowMaxV_apply (Z : FVec Ideal S16384x1024 .f32) (i : Fin 16384) :
    rowMaxV Z (ix1 i) = Finset.univ.fold max (lit 0xFF800000#32) fun k => Z (ix2 i k) := by
  pointwise [rowMaxV]
theorem boundV_apply (M : FVec Ideal S16384 .f32) (i : Fin 16384) : boundV M (ix1 i) = max (lit 0xFF800000#32) (M (ix1 i)) := by
  pointwise [boundV]
theorem colV_apply (M : FVec Ideal S16384 .f32) (i : Fin 16384) (j : Fin 1024) : colV M (ix2 i j) = M (ix1 i) := by
  pointwise [colV]
theorem expV_apply (Z M : FVec Ideal S16384x1024 .f32) (i : Fin 16384) (j : Fin 1024) :
    expV Z M (ix2 i j) = Ideal.exp (Z (ix2 i j) - M (ix2 i j)) := by
  pointwise [expV]
theorem rowSumV_apply (X : FVec Ideal S16384x1024 .f32) (i : Fin 16384) : rowSumV X (ix1 i) = ∑ k, X (ix2 i k) := by
  pointwise [rowSumV]
theorem softDivV_apply (X : FVec Ideal S16384x1024 .f32) (i : Fin 16384) (j : Fin 1024) :
    softDivV X (ix2 i j) = Ideal.div (X (ix2 i j)) (∑ k, X (ix2 i k)) := by
  pointwise [softDivV]
  rw [colV_apply, rowSumV_apply]
theorem softExpV_apply (Z : FVec Ideal S16384x1024 .f32) (i : Fin 16384) (j : Fin 1024) :
    softExpV Z (ix2 i j) = Ideal.exp (Z (ix2 i j) - max (lit 0xFF800000#32) (Finset.univ.fold max (lit 0xFF800000#32) fun k => Z (ix2 i k))) := by
  rw [softExpV, expV_apply, colV_apply, boundV_apply, rowMaxV_apply]
theorem softMeanV_apply (D : FVec Ideal S16384x1024 .f32) (j : Fin 1024) : softMeanV D (ix1 j) = softMean (fun i k => D (ix2 i k)) j := by
  unfold softMeanV
  rw [probsV_apply]
  simp only [softDivV_apply, softExpV_apply, softV_apply]
  rfl

/-- The histogram with the softmax's mean added and taken away, as the reference composes it. -/
def weightV (E D : FVec Ideal S16384x1024 .f32) : FVec Ideal S1024 .f32 := addf (probsV E) (subf (softMeanV D) (softMeanV D))
theorem addSub_apply (a b : FVec Ideal S1024 .f32) (j : Fin 1024) : addf a (subf b b) (ix1 j) = a (ix1 j) + (b (ix1 j) - b (ix1 j)) := by
  pointwise
theorem weightV_apply (E D : FVec Ideal S16384x1024 .f32) (j : Fin 1024) :
    weightV E D (ix1 j) = probs (fun i k => E (ix2 i k)) j + (softMean (fun i k => D (ix2 i k)) j - softMean (fun i k => D (ix2 i k)) j) := by
  rw [← probsV_apply, ← softMeanV_apply, weightV, addSub_apply]

theorem s5_v51 :
    after hostOps0_5 V (Proc.devRef .tc main_v51) = weightV (V (Proc.devRef .tc main_v25)) (V (Proc.devRef .tc main_v15)) := by
  after_reads_simp
  rfl

end Cert.Proof.RefSoft
-- ==== Proof.RefHist.lean ====
/-
  The reference's quantized rows and its weights, up to the loop's entry.
-/
module

public import proofs.«01_k».proof.Proof.RefRun
public import proofs.«01_k».proof.Proof.Spec
public import Idealize.ShloMosaic.Lib.StableHlo.ReadAt
public import Idealize.ShloMosaic.Lib.Pointwise
public import proofs.«01_k».proof.Proof.RefSoft

@[expose] public section

set_option maxRecDepth 16384

noncomputable section

namespace Cert.Proof.RefHist

open Idealize.ShloMosaic Idealize.ShloMosaic.TcCoe Idealize.ShloMosaic.StableHlo Idealize.SL.Sem
open Cert.ReferenceIdeal Cert.ReferenceIdeal.Gen Cert.ReferenceIdeal.Value
open Cert.Proof.Spec Cert.Proof.FirstMin
open Cert.Proof.RefSoft
variable (V : Valuation τ sig (Elt Ideal))

/-- A clipped vector over its sum, the clip's bound and the bell's pieces, as the reference composes them. -/
def clipV (p : FVec Ideal S1024 .f32) : FVec Ideal S1024 .f32 :=
  maximumf (broadcastInDim S1024 ![] bcast_S_S1024 (id (constant (F := Ideal) S_ .f32 0x2B8CBCCC#32))) p
def overSumV (p : FVec Ideal S1024 .f32) : FVec Ideal S1024 .f32 :=
  Host.divf p (broadcastInDim S1024 ![] bcast_S_S1024 (Host.reduceAdd p (constant S_ .f32 0x00000000#32) reducesTo_S1024_S_d0 h_S_))
def numV : FVec Ideal S1024 .f32 := sitofp .f32 (iotaInDim S1024 32 0)
def scaledV : FVec Ideal S1024 .f32 :=
  Host.divf (subf numV (broadcastInDim S1024 ![] bcast_S_S1024 (constant S_ .f32 0x43FFC000#32)))
    (broadcastInDim S1024 ![] bcast_S_S1024 (constant S_ .f32 0x432AAAAB#32))
def bellV : FVec Ideal S1024 .f32 :=
  Host.exp (mulf (broadcastInDim S1024 ![] bcast_S_S1024 (constant S_ .f32 0xBF000000#32)) (mulf scaledV scaledV))
def bellSumV : FVec Ideal S_ .f32 := Host.reduceAdd bellV (constant S_ .f32 0x00000000#32) reducesTo_S1024_S_d0 h_S_
def distancesV (v : FVec Ideal S1024 .f32) : FVec Ideal S1024x1024 .f32 :=
  Host.absf (subf (broadcastInDim S1024x1024 ![0, 1] bcast_S1024x1_S1024x1024_0_1 (broadcastInDim S1024x1 ![0] bcast_S1024_S1024x1_0 v))
    (broadcastInDim S1024x1024 ![0, 1] bcast_S1x1024_S1024x1024_0_1 (broadcastInDim S1x1024 ![1] bcast_S1024_S1x1024_1 v)))

theorem clipV_apply (p : FVec Ideal S1024 .f32) (j : Fin 1024) : clipV p (ix1 j) = clip (fun k => p (ix1 k)) j := by
  pointwise [clipV, id]
  rfl
theorem overSumV_apply (p : FVec Ideal S1024 .f32) (j : Fin 1024) : overSumV p (ix1 j) = Ideal.div (p (ix1 j)) (∑ k, p (ix1 k)) := by
  pointwise [overSumV]
theorem numV_apply (j : Fin 1024) : numV (ix1 j) = num j := by
  pointwise [numV]
  rfl
theorem bellV_apply (j : Fin 1024) : bellV (ix1 j) = bell j := by
  pointwise [bellV, scaledV, numV]
  rfl
theorem bellSumV_apply (j : S_.Idx) : bellSumV j = ∑ k, bell k := by
  pointwise [bellSumV, bellV, scaledV, numV]
  rfl
theorem distancesV_apply (v : FVec Ideal S1024 .f32) (i j : Fin 1024) :
    distancesV v (ix2 i j) = max (v (ix1 i) - v (ix1 j)) (-(v (ix1 i) - v (ix1 j))) := by
  pointwise [distancesV]
  rfl

/-- The quantized rows as the reference composes them. -/
def quantV (E : FVec Ideal S16384x1024 .f32) (cb : FVec Ideal S1024x64 .f32) : FVec Ideal S16384x64 .f32 :=
  Host.dotGeneral dot_S16384x1024_S1024x64_S16384x64_1_0_0_1_n_n none E cb
def noisyV (E : FVec Ideal S16384x1024 .f32) : FVec Ideal S16384x1024 .f32 :=
  addf E (broadcastInDim S16384x1024 ![] bcast_S_S16384x1024 (constant S_ .f32 0x00000000#32))
theorem quantV_apply (E : FVec Ideal S16384x1024 .f32) (cb : FVec Ideal S1024x64 .f32) (i : Fin 16384) (d : Fin 64) :
    quantV E cb (ix2 i d) = quant (fun i k => E (ix2 i k)) (fun k d => cb (ix2 k d)) i d := by
  pointwise [quantV]
  rfl
theorem noisyV_eq (E : FVec Ideal S16384x1024 .f32) : noisyV E = E := by
  funext j
  pointwise [noisyV]

theorem s5_v26 : after hostOps0_5 V (Proc.devRef .tc main_v26) = quantV (V (Proc.devRef .tc main_v25)) (V (Proc.devRef .tc main_arg1)) := by
  after_reads_simp
  rfl
theorem s5_v28 : after hostOps0_5 V (Proc.devRef .tc main_v28) = noisyV (V (Proc.devRef .tc main_v25)) := by
  after_reads_simp
  rfl
theorem s5_v29 : after hostOps0_5 V (Proc.devRef .tc main_v29) = quantV (noisyV (V (Proc.devRef .tc main_v25))) (V (Proc.devRef .tc main_arg1)) := by
  after_reads_simp
  rfl
theorem s5_cst : after hostOps0_5 V (Proc.devRef .tc main_cst_14) = constant (F := Ideal) S_ .f32 0x2B8CBCCC#32 := by
  after_reads_simp

theorem s6_v52 (h : V (Proc.devRef .tc main_cst_14) = constant (F := Ideal) S_ .f32 0x2B8CBCCC#32) :
    after hostOps0_6 V (Proc.devRef .tc main_v52) = clipV (V (Proc.devRef .tc main_v51)) := by
  after_reads_simp
  simp -implicitDefEqProofs only [StableHlo.TRef.toBuf, StableHlo.TRef.ofBuf, cast_cast, cast_eq, h]
  rfl

theorem s7_v55 : after hostOps0_7 V (Proc.devRef .tc main_v55) = overSumV (V (Proc.devRef .tc main_v52)) := by
  after_reads_simp
  rfl
theorem s7_v64 : after hostOps0_7 V (Proc.devRef .tc main_v64) = bellV := by
  after_reads_simp
  rfl
theorem s7_v65 : after hostOps0_7 V (Proc.devRef .tc main_v65) = bellSumV := by
  after_reads_simp
  rfl
theorem s7_v56 : after hostOps0_7 V (Proc.devRef .tc main_v56) = numV := by
  after_reads_simp
  rfl
theorem s7_cst : after hostOps0_7 V (Proc.devRef .tc main_cst_20) = constant (F := Ideal) S_ .f32 0x2B8CBCCC#32 := by
  after_reads_simp

/-- The bell over its clipped sum. -/
def clipSumV (s : FVec Ideal S_ .f32) : FVec Ideal S_ .f32 := maximumf (id (constant (F := Ideal) S_ .f32 0x2B8CBCCC#32)) s
def overV (p : FVec Ideal S1024 .f32) (s : FVec Ideal S_ .f32) : FVec Ideal S1024 .f32 := Host.divf p (broadcastInDim S1024 ![] bcast_S_S1024 s)

theorem target_apply (j : Fin 1024) : overV bellV (clipSumV bellSumV) (ix1 j) = target j := by
  pointwise [overV, clipSumV, id]
  rw [bellV_apply, bellSumV_apply]
  rfl

theorem s8_v66 (h : V (Proc.devRef .tc main_cst_20) = constant (F := Ideal) S_ .f32 0x2B8CBCCC#32) :
    after hostOps0_8 V (Proc.devRef .tc main_v66) = clipSumV (V (Proc.devRef .tc main_v65)) := by
  after_reads_simp
  simp -implicitDefEqProofs only [StableHlo.TRef.toBuf, StableHlo.TRef.ofBuf, cast_cast, cast_eq, h]
  rfl
theorem s9_v68 : after hostOps0_9 V (Proc.devRef .tc main_v68) = overV (V (Proc.devRef .tc main_v64)) (V (Proc.devRef .tc main_v66)) := by
  after_reads_simp
  rfl
theorem s9_v74 : after hostOps0_9 V (Proc.devRef .tc main_v74) = distancesV (V (Proc.devRef .tc main_v56)) := by
  after_reads_simp
  rfl
theorem s9_v76_0 : after hostOps0_9 V (Proc.devRef .tc main_v76_0) = V (Proc.devRef .tc main_v55) := by
  after_reads_simp
  rfl
theorem s9_v76_1 : after hostOps0_9 V (Proc.devRef .tc main_v76_1) = overV (V (Proc.devRef .tc main_v64)) (V (Proc.devRef .tc main_v66)) := by
  after_reads_simp
  rfl
theorem s9_v76_2 : after hostOps0_9 V (Proc.devRef .tc main_v76_2) = distancesV (V (Proc.devRef .tc main_v56)) := by
  after_reads_simp
  rfl
/-- A vector of zeros. -/
def zeroV : FVec Ideal S1024 .f32 := broadcastInDim S1024 ![] bcast_S_S1024 (constant S_ .f32 0x00000000#32)
theorem zeroV_apply (j : Fin 1024) : zeroV (ix1 j) = 0 := by
  pointwise [zeroV]
theorem s9_v76_5 : after hostOps0_9 V (Proc.devRef .tc main_v76_5) = zeroV := by
  after_reads_simp
  rfl

end Cert.Proof.RefHist
-- ==== Proof.RefLoop.lean ====
/-
  One trip of the reference's loop, read at an index.
-/
module

public import proofs.«01_k».proof.Proof.Gen.ReferenceIdeal.Run
public import proofs.«01_k».proof.Proof.Spec
public import Idealize.ShloMosaic.Lib.Pointwise
public import proofs.«01_k».proof.Proof.RefHist
public import proofs.«01_k».proof.Proof.Dual

@[expose] public section

set_option maxRecDepth 16384

noncomputable section

namespace Cert.Proof.RefLoop

open Idealize.ShloMosaic Idealize.ShloMosaic.TcCoe Idealize.ShloMosaic.StableHlo Idealize.SL.Sem
open Cert.ReferenceIdeal Cert.ReferenceIdeal.Gen Cert.ReferenceIdeal.Value
open Cert.Proof.Spec Cert.Proof.FirstMin
open Cert.Proof.RefSoft Cert.Proof.RefHist Cert.Proof.Dual
variable (V : Valuation τ sig (Elt Ideal))

/-- A vector as a matrix's rows, or as its columns. -/
def acrossV (v : FVec Ideal S1024 .f32) : FVec Ideal S1024x1024 .f32 :=
  broadcastInDim S1024x1024 ![0, 1] bcast_S1x1024_S1024x1024_0_1 (broadcastInDim S1x1024 ![1] bcast_S1024_S1x1024_1 v)
def downV (v : FVec Ideal S1024 .f32) : FVec Ideal S1024x1024 .f32 :=
  broadcastInDim S1024x1024 ![0, 1] bcast_S1024x1_S1024x1024_0_1 (broadcastInDim S1024x1 ![0] bcast_S1024_S1024x1_0 v)
def logClipV (v : FVec Ideal S1024 .f32) : FVec Ideal S1024 .f32 := Host.log (clipV v)

/-- The scores, their rows' maxima, exponentials and sums, as the reference composes them. -/
def matV (lt : FVec Ideal S1024 .f32) (D : FVec Ideal S1024x1024 .f32) (φ : FVec Ideal S1024 .f32) : FVec Ideal S1024x1024 .f32 :=
  addf (acrossV lt) (Host.divf (addf (Host.negf D) (acrossV φ)) (broadcastInDim S1024x1024 ![] bcast_S_S1024x1024 (constant S_ .f32 0x3D4CCCCD#32)))
def maxV (M : FVec Ideal S1024x1024 .f32) : FVec Ideal S1024 .f32 :=
  Host.reduce FloatOps.maximumf M (constant S_ .f32 0xFF800000#32) reducesTo_S1024x1024_S1024_d1 h_S_
def belowV (M N : FVec Ideal S1024x1024 .f32) : FVec Ideal S1024x1024 .f32 := Host.exp (subf M N)
def expoV (M : FVec Ideal S1024x1024 .f32) : FVec Ideal S1024x1024 .f32 := belowV M (downV (maxV M))
def sumV (X : FVec Ideal S1024x1024 .f32) : FVec Ideal S1024 .f32 :=
  Host.reduceAdd X (constant S_ .f32 0x00000000#32) reducesTo_S1024x1024_S1024_d1 h_S_

/-- The marginal's pieces: the rows' factors, the entries, their sums down the columns. -/
def factorV (src s : FVec Ideal S1024 .f32) : FVec Ideal S1024 .f32 :=
  Host.divf (mulf (broadcastInDim S1024 ![] bcast_S_S1024 (constant S_ .f32 0xBD4CCCCD#32))
    (mulf src (broadcastInDim S1024 ![] bcast_S_S1024 (constant S_ .f32 0x3F800000#32)))) s
def entryV (f : FVec Ideal S1024 .f32) (X : FVec Ideal S1024x1024 .f32) : FVec Ideal S1024x1024 .f32 :=
  Host.divf (mulf (broadcastInDim S1024x1024 ![0] bcast_S1024_S1024x1024_0 f) X)
    (broadcastInDim S1024x1024 ![] bcast_S_S1024x1024 (constant S_ .f32 0x3D4CCCCD#32))
def foldV (X : FVec Ideal S1024x1024 .f32) : FVec Ideal S1024 .f32 :=
  Host.reduceAdd (shapeCast S1x1024 (Host.reduceAdd X (constant S_ .f32 0x00000000#32) reducesTo_S1024x1024_S1024_d0 h_S_) shapeCasts_S1024_S1x1024)
    (constant S_ .f32 0x00000000#32) reducesTo_S1x1024_S1024_d0 h_S_
def moveV (φ tgt g : FVec Ideal S1024 .f32) : FVec Ideal S1024 .f32 :=
  addf φ (mulf (broadcastInDim S1024 ![] bcast_S_S1024 (constant S_ .f32 0x3F000000#32))
    (addf (mulf tgt (broadcastInDim S1024 ![] bcast_S_S1024 (constant S_ .f32 0x3F800000#32))) g))
def stepV (src tgt : FVec Ideal S1024 .f32) (M : FVec Ideal S1024x1024 .f32) (φ : FVec Ideal S1024 .f32) : FVec Ideal S1024 .f32 :=
  moveV φ tgt (foldV (entryV (factorV src (sumV (expoV M))) (expoV M)))

theorem acrossV_apply (v : FVec Ideal S1024 .f32) (i j : Fin 1024) : acrossV v (ix2 i j) = v (ix1 j) := by
  pointwise [acrossV]
theorem downV_apply (v : FVec Ideal S1024 .f32) (i j : Fin 1024) : downV v (ix2 i j) = v (ix1 i) := by
  pointwise [downV]
theorem logClipV_apply (v : FVec Ideal S1024 .f32) (j : Fin 1024) : logClipV v (ix1 j) = Ideal.log (clip (fun k => v (ix1 k)) j) := by
  pointwise [logClipV]
  rw [clipV_apply]
theorem matV_apply (lt : FVec Ideal S1024 .f32) (D : FVec Ideal S1024x1024 .f32) (φ : FVec Ideal S1024 .f32) (i j : Fin 1024) :
    matV lt D φ (ix2 i j) = lt (ix1 j) + Ideal.div (-D (ix2 i j) + φ (ix1 j)) (lit 0x3D4CCCCD#32) := by
  pointwise [matV]
  rw [acrossV_apply, acrossV_apply]
theorem maxV_apply (M : FVec Ideal S1024x1024 .f32) (i : Fin 1024) : maxV M (ix1 i) = rowMax (fun i j => M (ix2 i j)) i := by
  pointwise [maxV]
  rfl
theorem belowV_apply (M N : FVec Ideal S1024x1024 .f32) (i j : Fin 1024) : belowV M N (ix2 i j) = Ideal.exp (M (ix2 i j) - N (ix2 i j)) := by
  pointwise [belowV]
theorem expoV_apply (M : FVec Ideal S1024x1024 .f32) (i j : Fin 1024) : expoV M (ix2 i j) = rowExp (fun i j => M (ix2 i j)) i j := by
  rw [expoV, belowV_apply, downV_apply, maxV_apply]
  rfl
theorem sumV_apply (X : FVec Ideal S1024x1024 .f32) (i : Fin 1024) : sumV X (ix1 i) = ∑ j, X (ix2 i j) := by
  pointwise [sumV]
theorem sumExpoV_apply (M : FVec Ideal S1024x1024 .f32) (i : Fin 1024) : sumV (expoV M) (ix1 i) = rowSum (fun i j => M (ix2 i j)) i := by
  rw [sumV_apply]
  simp only [expoV_apply]
  rfl
theorem factorV_apply (src s : FVec Ideal S1024 .f32) (i : Fin 1024) :
    factorV src s (ix1 i) = Ideal.div (lit 0xBD4CCCCD#32 * (src (ix1 i) * 1)) (s (ix1 i)) := by
  have e : (1 : EReal) = lit 0x3F800000#32 := Ideal.ofBits_one_f32.symm
  rw [e]
  pointwise [factorV]
theorem entryV_apply (f : FVec Ideal S1024 .f32) (X : FVec Ideal S1024x1024 .f32) (i j : Fin 1024) :
    entryV f X (ix2 i j) = Ideal.div (f (ix1 i) * X (ix2 i j)) (lit 0x3D4CCCCD#32) := by
  pointwise [entryV]
theorem foldV_apply (X : FVec Ideal S1024x1024 .f32) (j : Fin 1024) : foldV X (ix1 j) = ∑ i, X (ix2 i j) := by
  pointwise [foldV]
  exact Fin.sum_univ_one _
theorem moveV_apply (φ tgt g : FVec Ideal S1024 .f32) (j : Fin 1024) :
    moveV φ tgt g (ix1 j) = φ (ix1 j) + lit 0x3F000000#32 * (tgt (ix1 j) * 1 + g (ix1 j)) := by
  have e : (1 : EReal) = lit 0x3F800000#32 := Ideal.ofBits_one_f32.symm
  rw [e]
  pointwise [moveV]
theorem stepV_apply (src tgt : FVec Ideal S1024 .f32) (M : FVec Ideal S1024x1024 .f32) (φ : FVec Ideal S1024 .f32) (j : Fin 1024) :
    stepV src tgt M φ (ix1 j) = φ (ix1 j) + lit 0x3F000000#32 * (tgt (ix1 j) * 1 + rMarg (fun i j => M (ix2 i j)) (fun i => src (ix1 i)) j) := by
  rw [stepV, moveV_apply, foldV_apply]
  simp only [entryV_apply, factorV_apply, sumExpoV_apply, expoV_apply]
  rfl

/-- One trip, composed of these. -/
def tripV (p q : FVec Ideal S1024 .f32) (D : FVec Ideal S1024x1024 .f32) (φ : FVec Ideal S1024 .f32) : FVec Ideal S1024 .f32 :=
  stepV (overSumV (clipV p)) (overSumV (clipV q)) (matV (logClipV (overSumV (clipV q))) D φ) φ

theorem step_eq : step_main_v76_5 V = tripV (V (Proc.devRef .tc main_v76_0)) (V (Proc.devRef .tc main_v76_1)) (V (Proc.devRef .tc main_v76_2)) (V (Proc.devRef .tc main_v76_5)) := rfl

theorem overClip_apply (p : FVec Ideal S1024 .f32) (j : Fin 1024) : overSumV (clipV p) (ix1 j) = norm (fun k => p (ix1 k)) j := by
  rw [overSumV_apply]
  simp only [clipV_apply]
  rfl

/-- One trip, read at an index. -/
theorem tripV_apply (p q : FVec Ideal S1024 .f32) (φ : FVec Ideal S1024 .f32) (j : Fin 1024) :
    tripV p q (distancesV numV) φ (ix1 j)
      = rStep (norm fun k => p (ix1 k)) (norm fun k => q (ix1 k)) (fun j => Ideal.log (clip (norm fun k => q (ix1 k)) j)) (fun j => φ (ix1 j)) j := by
  rw [tripV, stepV_apply]
  simp only [matV_apply, logClipV_apply, overClip_apply, distancesV_apply, numV_apply]
  rfl

/-- The dual variable after `k` trips from a start. -/
def dualV (p q : FVec Ideal S1024 .f32) (D : FVec Ideal S1024x1024 .f32) (φ : FVec Ideal S1024 .f32) (k : ℕ) : FVec Ideal S1024 .f32 := (tripV p q D)^[k] φ

theorem step_iter (k : ℕ) : STEP^[k] V (Proc.devRef .tc main_v76_0) = V (Proc.devRef .tc main_v76_0)
    ∧ STEP^[k] V (Proc.devRef .tc main_v76_1) = V (Proc.devRef .tc main_v76_1)
    ∧ STEP^[k] V (Proc.devRef .tc main_v76_2) = V (Proc.devRef .tc main_v76_2)
    ∧ STEP^[k] V (Proc.devRef .tc main_v76_5) = dualV (V (Proc.devRef .tc main_v76_0)) (V (Proc.devRef .tc main_v76_1)) (V (Proc.devRef .tc main_v76_2)) (V (Proc.devRef .tc main_v76_5)) k := by
  induction k with
  | zero => exact ⟨rfl, rfl, rfl, rfl⟩
  | succ k ih =>
    obtain ⟨h0, h1, h2, h5⟩ := ih
    rw [Function.iterate_succ_apply', STEP_main_v76_0, STEP_main_v76_1, STEP_main_v76_2, STEP_main_v76_5, step_eq, h0, h1, h2, h5]
    refine ⟨rfl, rfl, rfl, ?_⟩
    unfold dualV
    rw [Function.iterate_succ_apply']

theorem dualV_apply (p q φ : FVec Ideal S1024 .f32) (k : ℕ) (j : Fin 1024) :
    dualV p q (distancesV numV) φ k (ix1 j)
      = (rStep (norm fun k => p (ix1 k)) (norm fun k => q (ix1 k)) (fun j => Ideal.log (clip (norm fun k => q (ix1 k)) j)))^[k] (fun j => φ (ix1 j)) j := by
  induction k generalizing j with
  | zero => rfl
  | succ k ih =>
    unfold dualV at ih ⊢
    rw [Function.iterate_succ_apply', Function.iterate_succ_apply', tripV_apply]
    exact congrArg (fun f => rStep _ _ _ f j) (funext fun j => ih j)

end Cert.Proof.RefLoop
-- ==== Proof.RefPost.lean ====
/-
  What the reference computes after its loop.
-/
module

public import proofs.«01_k».proof.Proof.Gen.ReferenceIdeal.Run
public import proofs.«01_k».proof.Proof.Spec
public import Idealize.ShloMosaic.Lib.Pointwise
public import proofs.«01_k».proof.Proof.RefLoop

@[expose] public section

set_option maxRecDepth 16384

noncomputable section

namespace Cert.Proof.RefPost

open Idealize.ShloMosaic Idealize.ShloMosaic.TcCoe Idealize.ShloMosaic.StableHlo Idealize.SL.Sem
open Cert.ReferenceIdeal Cert.ReferenceIdeal.Gen Cert.ReferenceIdeal.Value
open Cert.Proof.Spec Cert.Proof.FirstMin
open Cert.Proof.RefSoft Cert.Proof.RefHist Cert.Proof.RefLoop Cert.Proof.Dual
variable (V : Valuation τ sig (Elt Ideal))

/-- The objective, the mean squared error, the loss, the perplexity and the quantized output, as the reference composes them. -/
def sumAllV (v : FVec Ideal S1024 .f32) : FVec Ideal S_ .f32 := Host.reduceAdd v (constant S_ .f32 0x00000000#32) reducesTo_S1024_S_d0 h_S_
def softTermV (M : FVec Ideal S1024x1024 .f32) : FVec Ideal S1024 .f32 :=
  mulf (broadcastInDim S1024 ![] bcast_S_S1024 (constant S_ .f32 0xBD4CCCCD#32)) (addf (Host.log (sumV (expoV M))) (maxV M))
def objV (src tgt : FVec Ideal S1024 .f32) (M : FVec Ideal S1024x1024 .f32) (φ : FVec Ideal S1024 .f32) : FVec Ideal S_ .f32 :=
  addf (sumAllV (mulf src (softTermV M))) (sumAllV (mulf tgt φ))
def mseV (q x : FVec Ideal S16384x64 .f32) : FVec Ideal S_ .f32 :=
  Host.divf (Host.reduceAdd (mulf (subf q x) (subf q x)) (constant S_ .f32 0x00000000#32) reducesTo_S16384x64_S_d0_1 h_S_) (constant S_ .f32 0x49800000#32)
def totalV (e o : FVec Ideal S_ .f32) : FVec Ideal S_ .f32 :=
  addf (addf e (mulf (constant S_ .f32 0x3E800000#32) e)) (mulf (constant S_ .f32 0x3F800000#32) o)
def perpV (p : FVec Ideal S1024 .f32) : FVec Ideal S_ .f32 :=
  Host.exp (Host.negf (sumAllV (mulf p (Host.log (addf p (broadcastInDim S1024 ![] bcast_S_S1024 (constant S_ .f32 0x2EDBE6FF#32)))))))
def outV (a : FVec Ideal S16x32x32x64 .f32) (q : FVec Ideal S16384x64 .f32) : FVec Ideal S16x64x32x32 .f32 :=
  transpose S16x64x32x32 [0, 3, 1, 2] (addf a (subf (shapeCast S16x32x32x64 q shapeCasts_S16384x64_S16x32x32x64) a))
    transposes_S16x32x32x64_S16x64x32x32_0_3_1_2
def lossV (q x : FVec Ideal S16384x64 .f32) (p t : FVec Ideal S1024 .f32) (D : FVec Ideal S1024x1024 .f32) (φ : FVec Ideal S1024 .f32) : FVec Ideal S_ .f32 :=
  totalV (mseV q x) (objV (overSumV (clipV p)) (overSumV (clipV t)) (matV (logClipV (overSumV (clipV t))) D φ) φ)

theorem sumAllV_apply (v : FVec Ideal S1024 .f32) : sumAllV v ix0 = ∑ j, v (ix1 j) := by
  pointwise [sumAllV]
theorem softTermV_apply (M : FVec Ideal S1024x1024 .f32) (i : Fin 1024) :
    softTermV M (ix1 i) = lit 0xBD4CCCCD#32 * (Ideal.log (rowSum (fun i j => M (ix2 i j)) i) + rowMax (fun i j => M (ix2 i j)) i) := by
  pointwise [softTermV]
  rw [maxV_apply, sumExpoV_apply]
theorem mulf1_apply (a b : FVec Ideal S1024 .f32) (j : Fin 1024) : mulf a b (ix1 j) = a (ix1 j) * b (ix1 j) := by
  pointwise
theorem addf0_apply (a b : FVec Ideal S_ .f32) : addf a b ix0 = a ix0 + b ix0 := by
  pointwise
theorem objV_apply (src tgt : FVec Ideal S1024 .f32) (M : FVec Ideal S1024x1024 .f32) (φ : FVec Ideal S1024 .f32) :
    objV src tgt M φ ix0 = rObj (fun i j => M (ix2 i j)) (fun i => src (ix1 i)) (fun j => tgt (ix1 j)) fun j => φ (ix1 j) := by
  rw [objV, addf0_apply, sumAllV_apply, sumAllV_apply]
  simp only [mulf1_apply, softTermV_apply]
  rfl
theorem mseV_apply (q x : FVec Ideal S16384x64 .f32) : mseV q x ix0 = mse (err (fun i d => q (ix2 i d)) fun i d => x (ix2 i d)) := by
  pointwise [mseV]
  rfl
theorem totalV_apply (e o : FVec Ideal S_ .f32) : totalV e o ix0 = (e ix0 + lit 0x3E800000#32 * e ix0) + 1 * o ix0 := by
  have e1 : (1 : EReal) = lit 0x3F800000#32 := Ideal.ofBits_one_f32.symm
  rw [e1]
  pointwise [totalV]
theorem perpV_apply (p : FVec Ideal S1024 .f32) : perpV p ix0 = Ideal.exp (-entropy fun j => p (ix1 j)) := by
  pointwise [perpV, sumAllV]
  rfl
theorem lossV_apply (q x : FVec Ideal S16384x64 .f32) (p t φ : FVec Ideal S1024 .f32) :
    lossV q x p t (distancesV numV) φ ix0
      = loss (err (fun i d => q (ix2 i d)) fun i d => x (ix2 i d))
          (rObj (rMat (fun j => Ideal.log (clip (norm fun k => t (ix1 k)) j)) fun j => φ (ix1 j)) (norm fun k => p (ix1 k)) (norm fun k => t (ix1 k)) fun j => φ (ix1 j)) := by
  rw [lossV, totalV_apply, mseV_apply, objV_apply, one_mul]
  simp only [matV_apply, logClipV_apply, overClip_apply, distancesV_apply, numV_apply]
  rfl

theorem post_v122 : afterL postI (after condOps V) (Proc.devRef .tc main_v122) = lossV (V (Proc.devRef .tc main_v26)) (V (Proc.devRef .tc main_v1)) (V (Proc.devRef .tc main_v55)) (V (Proc.devRef .tc main_v68)) (V (Proc.devRef .tc main_v74)) (V (Proc.devRef .tc main_v76_5)) := by
  simp only [postI, afterL_cons, afterL_nil]
  after_reads_simp
  rfl
theorem post_v135 : afterL postI (after condOps V) (Proc.devRef .tc main_v135) = perpV (probsV (V (Proc.devRef .tc main_v25))) := by
  simp only [postI, afterL_cons, afterL_nil]
  after_reads_simp
  rfl
theorem post_v136 : afterL postI (after condOps V) (Proc.devRef .tc main_v136) = outV (V (Proc.devRef .tc main_v0)) (V (Proc.devRef .tc main_v29)) := by
  simp only [postI, afterL_cons, afterL_nil]
  after_reads_simp
  rfl
theorem post_v128 : afterL postI (after condOps V) (Proc.devRef .tc main_v128) = probsV (V (Proc.devRef .tc main_v25)) := by
  simp only [postI, afterL_cons, afterL_nil]
  after_reads_simp
  rfl
theorem post_v25 : afterL postI (after condOps V) (Proc.devRef .tc main_v25) = V (Proc.devRef .tc main_v25) := by
  simp only [postI, afterL_cons, afterL_nil]
  after_reads_simp
theorem post_v28 : afterL postI (after condOps V) (Proc.devRef .tc main_v28) = V (Proc.devRef .tc main_v28) := by
  simp only [postI, afterL_cons, afterL_nil]
  after_reads_simp
theorem post_v68 : afterL postI (after condOps V) (Proc.devRef .tc main_v68) = V (Proc.devRef .tc main_v68) := by
  simp only [postI, afterL_cons, afterL_nil]
  after_reads_simp

end Cert.Proof.RefPost
-- ==== Proof.RefEnc.lean ====
/-
  The reference's encoding.
-/
module

public import proofs.«01_k».proof.Proof.RefRun
public import proofs.«01_k».proof.Proof.Spec
public import Idealize.ShloMosaic.Lib.StableHlo.ReadAt
public import Idealize.ShloMosaic.Lib.Pointwise

@[expose] public section

set_option maxRecDepth 16384

noncomputable section

namespace Cert.Proof.RefEnc

open Idealize.ShloMosaic Idealize.ShloMosaic.TcCoe Idealize.ShloMosaic.StableHlo Idealize.SL.Sem
open Cert.ReferenceIdeal Cert.ReferenceIdeal.Gen Cert.ReferenceIdeal.Value
open Cert.Proof.Spec Cert.Proof.FirstMin

variable (V : Valuation τ sig (Elt Ideal))

theorem lit_top : lit 0x7F800000#32 = ⊤ := by simp [Ideal.ofBits, Ideal.ieee]

/-- The fold's body keeps the least of its two pairs. -/
theorem reducer_keeps (a b : EReal × BitVec 32) :
    (reducer_argmin_f32_i32 (F := Ideal) a b = a ∧ Le a b) ∨ (reducer_argmin_f32_i32 (F := Ideal) a b = b ∧ Le b a) := by
  obtain ⟨a1, a2⟩ := a
  obtain ⟨b1, b2⟩ := b
  simp only [reducer_argmin_f32_i32, Ideal.cmpf_def, Ideal.cmp, Le, Scalar.select, IntOp.cmpi, IntOp.ori, IntOp.andi]
  rcases lt_trichotomy a1 b1 with h | h | h
  · left
    have e : ∀ x : BitVec 1, 1#1 ||| x = 1#1 := by decide
    simp [h, e]
  · subst h
    by_cases g : a2.toInt < b2.toInt
    · left
      have : a2.slt b2 = true := by simpa [BitVec.slt] using g
      simp [this, g.le]
    · right
      have : a2.slt b2 = false := by simpa [BitVec.slt] using g
      simp [this, not_lt.1 g]
  · right
    simp [h, h.not_gt, h.ne']

theorem argmin_apply (D : FVec Ideal S16384x1024 .f32) (i : Fin 16384) :
    (Host.argReduce reducer_argmin_f32_i32 D (iotaInDim S16384x1024 32 1) (constant S_ .f32 0x7F800000#32) (constantI S_ 32 0#32)
      reducesTo_S16384x1024_S16384_d1 h_S_ (ix1 i)).2 = BitVec.ofNat 32 (arg fun j => D (ix2 i j) : ℕ) := by
  rw [Ideal.argReduce_eq_reduce2, Host.reduce2_eq_foldl_fiber]
  have h0 : ((constant (F := Ideal) S_ .f32 0x7F800000#32) (Shape.Idx.first h_S_), (constantI S_ 32 0#32) (Shape.Idx.first h_S_)) = ((⊤ : EReal), 0#32) :=
    Prod.ext lit_top rfl
  rw [h0]
  refine foldl_arg _ reducer_keeps _ _ fun p => ?_
  have hd : ∀ x : S16384x1024.Idx, ((reducesTo_S16384x1024_S16384_d1.drop x 0 : Fin _) : ℕ) = x 0 := fun x =>
    Shape.ReducesTo.drop_apply_val_of_eq _ x 0 0
  unfold Host.argReduceFiber
  simp only [List.mem_map, List.mem_filter, List.mem_finRange, true_and, decide_eq_true_eq]
  constructor
  · rintro ⟨n, hn, rfl⟩
    have hx := hd (S16384x1024.rowMajor.symm n)
    rw [hn] at hx
    generalize S16384x1024.rowMajor.symm n = x at hx
    refine ⟨x 1, ?_⟩
    have hi : x 0 = i := Fin.ext hx.symm
    rw [← hi]
    refine Prod.ext ?_ rfl
    exact congrArg D (ix2_eta x).symm
  · rintro ⟨k, rfl⟩
    refine ⟨S16384x1024.rowMajor (ix2 i k), ?_, ?_⟩
    · rw [Equiv.symm_apply_apply]
      rw [eq_ix1 (reducesTo_S16384x1024_S16384_d1.drop (ix2 i k))]
      exact congrArg ix1 (Fin.ext (hd (ix2 i k)))
    · rw [Equiv.symm_apply_apply]
      rfl

/-- The row's nearest code, as the reference composes it. -/
def argV (D : FVec Ideal S16384x1024 .f32) : IVec S16384 32 := fun j =>
  (Host.argReduce reducer_argmin_f32_i32 D (iotaInDim S16384x1024 32 1) (constant S_ .f32 0x7F800000#32) (constantI S_ 32 0#32)
      reducesTo_S16384x1024_S16384_d1 h_S_ j).2
def oneHotV (A : IVec S16384 32) : FVec Ideal S16384x1024 .f32 :=
  uitofp .f32 (cmpi .eq (broadcastInDim S16384x1024 ![0, 1] bcast_S16384x1_S16384x1024_0_1 (broadcastInDim S16384x1 ![0] bcast_S16384_S16384x1_0 A))
    (broadcastInDim S16384x1024 ![0, 1] bcast_S1x1024_S16384x1024_0_1 (iotaInDim S1x1024 32 1)))
def powerV (E : FVec Ideal S16384x1024 .f32) : FVec Ideal S_ .f32 :=
  Host.sqrt (Host.divf (Host.reduceAdd (mulf E E) (constant S_ .f32 0x00000000#32) reducesTo_S16384x1024_S_d0_1 h_S_) (constant S_ .f32 0x4B800000#32))
def overOneV (p : FVec Ideal S_ .f32) : IVec S_ 1 := cmpf .ogt p (constant S_ .f32 0x3F800000#32)

theorem oneHotV_apply (A : IVec S16384 32) (i : Fin 16384) (j : Fin 1024) :
    oneHotV A (ix2 i j) = FloatOps.uitofp (F := Ideal) .f32 (IntOp.cmpi .eq (A (ix1 i)) (BitVec.ofNat 32 (j : ℕ))) := by
  pointwise [oneHotV]
theorem powerV_apply (E : FVec Ideal S16384x1024 .f32) :
    powerV E ix0 = Ideal.sqrt (Ideal.div (∑ i : Fin 16384, ∑ j : Fin 1024, E (ix2 i j) * E (ix2 i j)) (lit 0x4B800000#32)) := by
  pointwise [powerV]
theorem overOneV_apply (p : FVec Ideal S_ .f32) : overOneV p ix0 = Ideal.cmp .ogt (p ix0) 1 := by
  pointwise [overOneV]

theorem s1_v16 : after hostOps0_1 V (Proc.devRef .tc main_v16) = argV (V (Proc.devRef .tc main_v15)) := by
  after_reads_simp
  simp -implicitDefEqProofs only [StableHlo.TRef.toBuf, StableHlo.TRef.ofBuf, cast_cast, cast_eq]
  rfl
theorem s2_v17 : after hostOps0_2 V (Proc.devRef .tc main_v17) = oneHotV (V (Proc.devRef .tc main_v16)) := by
  after_reads_simp
  simp -implicitDefEqProofs only [StableHlo.TRef.toBuf, StableHlo.TRef.ofBuf, cast_cast, cast_eq]
  rfl
theorem s3_v22 : after hostOps0_3 V (Proc.devRef .tc main_v22) = overOneV (powerV (V (Proc.devRef .tc main_v17))) := by
  after_reads_simp
  rfl
theorem s4_v25 (h : (V (Proc.devRef .tc main_v22) : IVec S_ 1) ix0 = 0#1) :
    after hostOps0_4 V (Proc.devRef .tc main_v25) = V (Proc.devRef .tc main_v17) := by
  funext x
  rw [eq_ix2 x]
  after_reads_at
  rw [h]
  rfl

end Cert.Proof.RefEnc
-- ==== Proof.RefDist.lean ====
/-
  The reference's distances and its encoding: what the first segments' operations leave, read at an index over what each
  segment found.
-/
module

public import proofs.«01_k».proof.Proof.RefRun
public import proofs.«01_k».proof.Proof.Spec
public import Idealize.ShloMosaic.Lib.StableHlo.ReadAt
public import Idealize.ShloMosaic.Lib.Pointwise

@[expose] public section

set_option maxRecDepth 16384

noncomputable section

namespace Cert.Proof.RefDist

open Idealize.ShloMosaic Idealize.ShloMosaic.TcCoe Idealize.ShloMosaic.StableHlo Idealize.SL.Sem
open Cert.ReferenceIdeal Cert.ReferenceIdeal.Gen Cert.ReferenceIdeal.Value
open Cert.Proof.Spec Cert.Proof.FirstMin

variable (V : Valuation τ sig (Elt Ideal))

/-- The inputs with the channels last. -/
def lastCh (a : FVec Ideal S16x64x32x32 .f32) : FVec Ideal S16x32x32x64 .f32 :=
  transpose S16x32x32x64 [0, 2, 3, 1] a transposes_S16x64x32x32_S16x32x32x64_0_2_3_1

/-- The inputs as rows of 64 channels. -/
def rows (a : FVec Ideal S16x64x32x32 .f32) : FVec Ideal S16384x64 .f32 :=
  shapeCast S16384x64 (lastCh a) shapeCasts_S16x32x32x64_S16384x64

/-- The distances as the reference composes them. -/
def distV (x : FVec Ideal S16384x64 .f32) (cb : FVec Ideal S1024x64 .f32) : FVec Ideal S16384x1024 .f32 :=
  subf (addf (broadcastInDim S16384x1024 ![0, 1] bcast_S16384x1_S16384x1024_0_1
          (broadcastInDim S16384x1 ![0] bcast_S16384_S16384x1_0
            (Host.reduceAdd (mulf x x) (constant S_ .f32 0x00000000#32) reducesTo_S16384x64_S16384_d1 h_S_)))
        (broadcastInDim S16384x1024 ![0, 1] bcast_S1x1024_S16384x1024_0_1
          (broadcastInDim S1x1024 ![1] bcast_S1024_S1x1024_1
            (Host.reduceAdd (mulf cb cb) (constant S_ .f32 0x00000000#32) reducesTo_S1024x64_S1024_d1 h_S_))))
    (mulf (broadcastInDim S16384x1024 ![] bcast_S_S16384x1024 (constant S_ .f32 0x40000000#32))
      (Host.dotGeneral dot_S16384x64_S64x1024_S16384x1024_1_0_0_1_n_n none x
        (transpose S64x1024 [1, 0] cb transposes_S1024x64_S64x1024_1_0)))

theorem distV_apply (x : FVec Ideal S16384x64 .f32) (cb : FVec Ideal S1024x64 .f32) (i : Fin 16384) (j : Fin 1024) :
    distV x cb (ix2 i j) = dist (fun i d => x (ix2 i d)) (fun j d => cb (ix2 j d)) i j := by
  pointwise [distV]
  rfl

theorem s0_v0 : after hostOps0 V (Proc.devRef .tc main_v0) = lastCh (V (Proc.devRef .tc main_arg0)) := by
  after_reads_simp
  rfl

theorem s0_v1 : after hostOps0 V (Proc.devRef .tc main_v1) = rows (V (Proc.devRef .tc main_arg0)) := by
  after_reads_simp
  rfl

theorem s0_v15 : after hostOps0 V (Proc.devRef .tc main_v15) = distV (rows (V (Proc.devRef .tc main_arg0))) (V (Proc.devRef .tc main_arg1)) := by
  after_reads_simp
  rfl

end Cert.Proof.RefDist
-- ==== Proof.DualReal.lean ====
/-
  Where the dual variable is real, the kernel's step and the reference's are one step, and it stays real.
-/
module

public import proofs.«01_k».proof.Proof.Dual

@[expose] public section

noncomputable section

namespace Cert.Proof.DualReal

open Idealize.ShloMosaic Cert.Proof.Spec Cert.Proof.Dual

/-- The constants. -/
theorem lit_bot : lit 0xFF800000#32 = ⊥ := by simp [Ideal.ofBits, Ideal.ieee]
theorem lit_half : lit 0x3F000000#32 = ((1 / 2 : ℝ) : EReal) := by
  simp [Ideal.ofBits, Ideal.ieee, -EReal.coe_mul]
  try norm_num
theorem lit_eps : lit 0x3D4CCCCD#32 = ((13421773 / 268435456 : ℝ) : EReal) := by
  simp [Ideal.ofBits, Ideal.ieee, -EReal.coe_mul]
  try norm_num
theorem lit_neg_eps : lit 0xBD4CCCCD#32 = ((-(13421773 / 268435456) : ℝ) : EReal) := by
  simp [Ideal.ofBits, Ideal.ieee, -EReal.coe_mul]
  try norm_num
theorem lit_clip : ∃ r : ℝ, 0 < r ∧ lit 0x2B8CBCCC#32 = (r : EReal) := by
  refine ⟨9223372 / 9223372036854775808, by norm_num, ?_⟩
  simp [Ideal.ofBits, Ideal.ieee, -EReal.coe_mul]
  try norm_num

/-- Being a real number. -/
def IsReal (x : EReal) : Prop := ∃ r : ℝ, x = (r : EReal)

theorem IsReal.coe (r : ℝ) : IsReal (r : EReal) := ⟨r, rfl⟩
theorem IsReal.add {x y : EReal} : IsReal x → IsReal y → IsReal (x + y) := by
  rintro ⟨a, rfl⟩ ⟨b, rfl⟩
  exact ⟨a + b, (EReal.coe_add a b).symm⟩
theorem IsReal.sub {x y : EReal} : IsReal x → IsReal y → IsReal (x - y) := by
  rintro ⟨a, rfl⟩ ⟨b, rfl⟩
  exact ⟨a - b, (EReal.coe_sub a b).symm⟩
theorem IsReal.neg {x : EReal} : IsReal x → IsReal (-x) := by
  rintro ⟨a, rfl⟩
  exact ⟨-a, (EReal.coe_neg a).symm⟩
theorem IsReal.mul {x y : EReal} : IsReal x → IsReal y → IsReal (x * y) := by
  rintro ⟨a, rfl⟩ ⟨b, rfl⟩
  exact ⟨a * b, (EReal.coe_mul a b).symm⟩
theorem IsReal.max {x y : EReal} : IsReal x → IsReal y → IsReal (max x y) := by
  rintro ⟨a, rfl⟩ ⟨b, rfl⟩
  rcases le_total a b with h | h
  · exact ⟨b, max_eq_right (EReal.coe_le_coe_iff.mpr h)⟩
  · exact ⟨a, max_eq_left (EReal.coe_le_coe_iff.mpr h)⟩
theorem IsReal.exp {x : EReal} : IsReal x → IsReal (Ideal.exp x) := by
  rintro ⟨a, rfl⟩
  exact ⟨Real.exp a, rfl⟩
theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]
theorem IsReal.sum {ι : Type} (s : Finset ι) {f : ι → EReal} (h : ∀ i, IsReal (f i)) : IsReal (∑ i ∈ s, f i) := by
  choose g hg using h
  exact ⟨∑ i ∈ s, g i, by rw [coe_sum]; exact Finset.sum_congr rfl fun i _ => hg i⟩
theorem div_coe (a b : ℝ) (h : b ≠ 0) : Ideal.div (a : EReal) (b : EReal) = ((a / b : ℝ) : EReal) := by
  unfold Ideal.div
  rw [if_neg (by rwa [EReal.coe_eq_zero]), ← EReal.coe_inv, ← EReal.coe_mul, div_eq_mul_inv]

/-- Being a positive real number. -/
def IsPos (x : EReal) : Prop := ∃ r : ℝ, 0 < r ∧ x = (r : EReal)
theorem IsPos.real {x : EReal} : IsPos x → IsReal x := fun ⟨r, _, h⟩ => ⟨r, h⟩
theorem IsPos.exp {x : EReal} : IsReal x → IsPos (Ideal.exp x) := by
  rintro ⟨a, rfl⟩
  exact ⟨Real.exp a, Real.exp_pos a, rfl⟩
theorem IsPos.sum {f : Fin 1024 → EReal} (h : ∀ i, IsPos (f i)) : IsPos (∑ i, f i) := by
  choose g hp hg using h
  refine ⟨∑ i, g i, Finset.sum_pos (fun i _ => hp i) ⟨0, Finset.mem_univ _⟩, ?_⟩
  rw [coe_sum]
  exact Finset.sum_congr rfl fun i _ => hg i
theorem IsReal.div {x y : EReal} : IsReal x → IsPos y → IsReal (Ideal.div x y) := by
  rintro ⟨a, rfl⟩ ⟨b, hb, rfl⟩
  exact ⟨a / b, div_coe a b hb.ne'⟩
theorem IsPos.div {x y : EReal} : IsPos x → IsPos y → IsPos (Ideal.div x y) := by
  rintro ⟨a, ha, rfl⟩ ⟨b, hb, rfl⟩
  exact ⟨a / b, div_pos ha hb, div_coe a b hb.ne'⟩
theorem IsReal.log {x : EReal} : IsPos x → IsReal (Ideal.log x) := by
  rintro ⟨a, ha, rfl⟩
  refine ⟨Real.log a, ?_⟩
  show (if a ≤ 0 then (⊥ : EReal) else ((Real.log a : ℝ) : EReal)) = _
  rw [if_neg (not_le.mpr ha)]

/-- Clipping makes a real vector positive, and so its share of the sum. -/
theorem clip_pos {p : Fin 1024 → EReal} (h : ∀ j, IsReal (p j)) (j : Fin 1024) : IsPos (clip p j) := by
  obtain ⟨c, hc, e⟩ := lit_clip
  obtain ⟨r, hr⟩ := h j
  unfold clip
  rw [e, hr]
  refine ⟨max c r, lt_max_of_lt_left hc, ?_⟩
  rcases le_total c r with h | h
  · rw [max_eq_right h, max_eq_right (EReal.coe_le_coe_iff.mpr h)]
  · rw [max_eq_left h, max_eq_left (EReal.coe_le_coe_iff.mpr h)]
theorem norm_pos {p : Fin 1024 → EReal} (h : ∀ j, IsReal (p j)) (j : Fin 1024) : IsPos (norm p j) :=
  IsPos.div (clip_pos h j) (IsPos.sum (clip_pos h))

theorem fold_max {n : ℕ} (f : Fin (n + 1) → EReal) (h : ∀ j, IsReal (f j)) : IsReal (Finset.univ.fold max ⊥ f) := by
  show IsReal (Finset.univ.sup f)
  obtain ⟨j, _, hj⟩ := Finset.exists_mem_eq_sup Finset.univ Finset.univ_nonempty f
  exact hj ▸ h j
variable {M : Fin 1024 → Fin 1024 → EReal} {src tgt lt φ : Fin 1024 → EReal}

theorem rowMax_real (h : ∀ i j, IsReal (M i j)) (i : Fin 1024) : IsReal (rowMax M i) := by
  unfold rowMax
  rw [lit_bot]
  exact fold_max (n := 1023) _ (h i)
theorem rowExp_pos (h : ∀ i j, IsReal (M i j)) (i j : Fin 1024) : IsPos (rowExp M i j) := IsPos.exp ((h i j).sub (rowMax_real h i))
theorem rowSum_pos (h : ∀ i j, IsReal (M i j)) (i : Fin 1024) : IsPos (rowSum M i) := IsPos.sum (rowExp_pos h i)

/-- The codes' distance is one real number in both forms. -/
theorem num_eq (j : Fin 1024) : num j = (((j : ℕ) : ℝ) : EReal) := by
  show ((((BitVec.ofNat 32 (j : ℕ)).toInt : ℤ) : ℝ) : EReal) = _
  rw [FirstMin.toInt_ofNat]
  norm_cast
theorem apart_eq (i j : Fin 1024) : apart i j = ((|((i : ℕ) : ℝ) - ((j : ℕ) : ℝ)| : ℝ) : EReal) := by
  unfold apart
  rw [num_eq, num_eq, ← EReal.coe_sub, ← EReal.coe_neg, abs_eq_max_neg]
  exact (EReal.coe_strictMono.monotone.map_max).symm
theorem gap_eq (i j : Fin 1024) : gap i j = ((|((i : ℕ) : ℝ) - ((j : ℕ) : ℝ)| : ℝ) : EReal) := by
  show ((((IntOp.absi (IntOp.subi (BitVec.ofNat 32 (i : ℕ)) (BitVec.ofNat 32 (j : ℕ)))).toInt : ℤ) : ℝ) : EReal) = _
  have e : (IntOp.absi (IntOp.subi (BitVec.ofNat 32 (i : ℕ)) (BitVec.ofNat 32 (j : ℕ)))).toInt = |(i : ℤ) - (j : ℤ)| := by
    have hi := i.isLt
    have hj := j.isLt
    have d : (BitVec.ofNat 32 (i : ℕ) - BitVec.ofNat 32 (j : ℕ)).toInt = (i : ℤ) - (j : ℤ) := by
      rw [BitVec.toInt_sub, FirstMin.toInt_ofNat, FirstMin.toInt_ofNat, Int.bmod_def]
      split <;> omega
    unfold IntOp.absi IntOp.subi
    by_cases h : (j : ℤ) ≤ (i : ℤ)
    · rw [abs_of_nonneg (by omega), if_neg (by rw [BitVec.msb_eq_toInt, d, decide_eq_true_iff]; omega), d]
    · rw [abs_of_nonpos (by omega), if_pos (by rw [BitVec.msb_eq_toInt, d, decide_eq_true_iff]; omega), BitVec.toInt_neg, d, Int.bmod_def]
      split <;> omega
  rw [e]
  norm_cast

/-- The reciprocal of the smoothing. -/
def rinv : EReal := ((268435456 / 13421773 : ℝ) : EReal)

theorem mat_eq (hl : ∀ j, IsReal (lt j)) (hφ : ∀ j, IsReal (φ j)) : kMat lt φ rinv = rMat lt φ := by
  funext i j
  obtain ⟨l, hl⟩ := hl j
  obtain ⟨f, hf⟩ := hφ j
  unfold kMat rMat rinv
  rw [hl, hf, gap_eq, apart_eq, lit_eps, ← EReal.coe_neg, ← EReal.coe_add, div_coe _ _ (by norm_num), ← EReal.coe_mul, ← EReal.coe_mul, ← EReal.coe_add,
    ← EReal.coe_add, ← EReal.coe_sub]
  congr 1
  ring
theorem mat_real (hl : ∀ j, IsReal (lt j)) (hφ : ∀ j, IsReal (φ j)) (i j : Fin 1024) : IsReal (rMat lt φ i j) := by
  unfold rMat
  rw [lit_eps, apart_eq]
  exact (hl j).add (IsReal.div ((IsReal.coe _).neg.add (hφ j)) ⟨_, by norm_num, rfl⟩)

theorem marg_eq (hM : ∀ i j, IsReal (M i j)) (hs : ∀ j, IsReal (src j)) (j : Fin 1024) : rMarg M src j = -kMarg M src j ∧ IsReal (kMarg M src j) := by
  choose s es using hs
  choose r hr er using rowSum_pos hM
  choose x ex using fun i => (rowExp_pos hM i j).real
  have k : kMarg M src j = ((∑ i, s i / r i * x i : ℝ) : EReal) := by
    unfold kMarg
    rw [coe_sum]
    refine Finset.sum_congr rfl fun i _ => ?_
    rw [es, er, ex, div_coe _ _ (hr i).ne', ← EReal.coe_mul]
  have k' : rMarg M src j = ((∑ i, -(s i / r i * x i) : ℝ) : EReal) := by
    unfold rMarg
    rw [coe_sum]
    refine Finset.sum_congr rfl fun i _ => ?_
    rw [es, er, ex, lit_neg_eps, lit_eps, mul_one, ← EReal.coe_mul, div_coe _ _ (hr i).ne', ← EReal.coe_mul, div_coe _ _ (by norm_num)]
    congr 1
    have := (hr i).ne'
    field_simp
  refine ⟨?_, k ▸ IsReal.coe _⟩
  rw [k, k', ← EReal.coe_neg, Finset.sum_neg_distrib]

/-- One step. -/
theorem step_eq (hl : ∀ j, IsReal (lt j)) (hs : ∀ j, IsReal (src j)) (ht : ∀ j, IsReal (tgt j)) (hφ : ∀ j, IsReal (φ j)) (j : Fin 1024) :
    kStep src tgt lt φ rinv j = rStep src tgt lt φ j ∧ IsReal (rStep src tgt lt φ j) := by
  obtain ⟨e, g⟩ := marg_eq (mat_real hl hφ) hs j
  unfold kStep rStep
  rw [mat_eq hl hφ, e, mul_one, sub_eq_add_neg, lit_half]
  exact ⟨rfl, (hφ j).add ((IsReal.coe _).mul ((ht j).add g.neg))⟩

/-- Any number of steps from a real start. -/
theorem iter_eq (hl : ∀ j, IsReal (lt j)) (hs : ∀ j, IsReal (src j)) (ht : ∀ j, IsReal (tgt j)) (hφ : ∀ j, IsReal (φ j)) (k : ℕ) :
    (fun φ => kStep src tgt lt φ rinv)^[k] φ = (rStep src tgt lt)^[k] φ ∧ ∀ j, IsReal ((rStep src tgt lt)^[k] φ j) := by
  induction k with
  | zero => exact ⟨rfl, hφ⟩
  | succ k ih =>
    rw [Function.iterate_succ_apply', Function.iterate_succ_apply', ih.1]
    exact ⟨funext fun j => (step_eq hl hs ht ih.2 j).1, fun j => (step_eq hl hs ht ih.2 j).2⟩

/-- The objectives differ in the order of two summands alone. -/
theorem obj_eq (M : Fin 1024 → Fin 1024 → EReal) (src tgt φ : Fin 1024 → EReal) : kObj M src tgt φ = rObj M src tgt φ := by
  unfold kObj rObj
  congr 1
  refine Finset.sum_congr rfl fun i _ => ?_
  rw [add_comm (rowMax M i)]

end Cert.Proof.DualReal

end
-- ==== Proof.RefEntry.lean ====
/-
  The reference's buffers at its loop's entry, of its arguments.
-/
module

public import proofs.«01_k».proof.Proof.Gen.ReferenceIdeal.Run
public import proofs.«01_k».proof.Proof.Spec
public import Idealize.ShloMosaic.Lib.Pointwise
public import proofs.«01_k».proof.Proof.RefHist
public import proofs.«01_k».proof.Proof.RefEnc
public import proofs.«01_k».proof.Proof.RefDist
public import proofs.«01_k».proof.Proof.DualReal

@[expose] public section

set_option maxRecDepth 16384

noncomputable section

namespace Cert.Proof.RefEntry

open Idealize.ShloMosaic Idealize.ShloMosaic.TcCoe Idealize.ShloMosaic.StableHlo Idealize.SL.Sem
open Cert.ReferenceIdeal Cert.ReferenceIdeal.Gen Cert.ReferenceIdeal.Value
open Cert.Proof.Spec Cert.Proof.FirstMin
open Cert.Proof.RefDist Cert.Proof.RefEnc Cert.Proof.RefSoft Cert.Proof.RefHist
variable (V : Valuation τ sig (Elt Ideal))

theorem k0 {b : Ref sig .tc} (h : b ∉ hostOps0_W) :
    after hostOps0 V (Proc.devRef .tc b) = V (Proc.devRef .tc b) :=
  after_of_writes_sub _ V hostOps0_writes h
theorem k1 {b : Ref sig .tc} (h : b ∉ hostOps0_1_W) :
    after hostOps0_1 V (Proc.devRef .tc b) = V (Proc.devRef .tc b) :=
  after_of_writes_sub _ V hostOps0_1_writes h
theorem k2 {b : Ref sig .tc} (h : b ∉ hostOps0_2_W) :
    after hostOps0_2 V (Proc.devRef .tc b) = V (Proc.devRef .tc b) :=
  after_of_writes_sub _ V hostOps0_2_writes h
theorem k3 {b : Ref sig .tc} (h : b ∉ hostOps0_3_W) :
    after hostOps0_3 V (Proc.devRef .tc b) = V (Proc.devRef .tc b) :=
  after_of_writes_sub _ V hostOps0_3_writes h
theorem k4 {b : Ref sig .tc} (h : b ∉ hostOps0_4_W) :
    after hostOps0_4 V (Proc.devRef .tc b) = V (Proc.devRef .tc b) :=
  after_of_writes_sub _ V hostOps0_4_writes h
theorem k5 {b : Ref sig .tc} (h : b ∉ hostOps0_5_W) :
    after hostOps0_5 V (Proc.devRef .tc b) = V (Proc.devRef .tc b) :=
  after_of_writes_sub _ V hostOps0_5_writes h
theorem k6 {b : Ref sig .tc} (h : b ∉ hostOps0_6_W) :
    after hostOps0_6 V (Proc.devRef .tc b) = V (Proc.devRef .tc b) :=
  after_of_writes_sub _ V hostOps0_6_writes h
theorem k7 {b : Ref sig .tc} (h : b ∉ hostOps0_7_W) :
    after hostOps0_7 V (Proc.devRef .tc b) = V (Proc.devRef .tc b) :=
  after_of_writes_sub _ V hostOps0_7_writes h
theorem k8 {b : Ref sig .tc} (h : b ∉ hostOps0_8_W) :
    after hostOps0_8 V (Proc.devRef .tc b) = V (Proc.devRef .tc b) :=
  after_of_writes_sub _ V hostOps0_8_writes h
theorem k9 {b : Ref sig .tc} (h : b ∉ hostOps0_9_W) :
    after hostOps0_9 V (Proc.devRef .tc b) = V (Proc.devRef .tc b) :=
  after_of_writes_sub _ V hostOps0_9_writes h

/-- The contents after each of the stretches before the loop. -/
def u0 : Valuation τ sig (Elt Ideal) := after hostOps0 V
def u1 : Valuation τ sig (Elt Ideal) := after hostOps0_1 (u0 V)
def u2 : Valuation τ sig (Elt Ideal) := after hostOps0_2 (u1 V)
def u3 : Valuation τ sig (Elt Ideal) := after hostOps0_3 (u2 V)
def u4 : Valuation τ sig (Elt Ideal) := after hostOps0_4 (u3 V)
def u5 : Valuation τ sig (Elt Ideal) := after hostOps0_5 (u4 V)
def u6 : Valuation τ sig (Elt Ideal) := after hostOps0_6 (u5 V)
def u7 : Valuation τ sig (Elt Ideal) := after hostOps0_7 (u6 V)
def u8 : Valuation τ sig (Elt Ideal) := after hostOps0_8 (u7 V)
def u9 : Valuation τ sig (Elt Ideal) := after hostOps0_9 (u8 V)

/-- The reference's encoding of its arguments, and the weights. -/
def encM (a : FVec Ideal S16x64x32x32 .f32) (cb : FVec Ideal S1024x64 .f32) : FVec Ideal S16384x1024 .f32 := oneHotV (argV (distV (rows a) cb))
def weightM (a : FVec Ideal S16x64x32x32 .f32) (cb : FVec Ideal S1024x64 .f32) : FVec Ideal S1024 .f32 :=
  overSumV (clipV (weightV (encM a cb) (distV (rows a) cb)))
def targetM : FVec Ideal S1024 .f32 := overV bellV (clipSumV bellSumV)

theorem argV_apply (D : FVec Ideal S16384x1024 .f32) (i : Fin 16384) : argV D (ix1 i) = BitVec.ofNat 32 (arg fun j => D (ix2 i j) : ℕ) :=
  have h : argV D = fun j => (Host.argReduce reducer_argmin_f32_i32 D (iotaInDim S16384x1024 32 1) (constant S_ .f32 0x7F800000#32) (constantI S_ 32 0#32)
      reducesTo_S16384x1024_S16384_d1 h_S_ j).2 := rfl
  (congrFun h (ix1 i)).trans (argmin_apply D i)
theorem hot_word (k j : Fin 1024) :
    FloatOps.uitofp (F := Ideal) .f32 (IntOp.cmpi .eq (BitVec.ofNat 32 (k : ℕ)) (BitVec.ofNat 32 (j : ℕ))) = if j = k then 1 else 0 := by
  by_cases e : j = k
  · rw [if_pos e, e]
    simp [IntOp.cmpi, FloatOps.uitofp]
  · rw [if_neg e]
    have g : ¬ BitVec.ofNat 32 (k : ℕ) = BitVec.ofNat 32 (j : ℕ) := fun q => e ((ofNat_inj ..).1 q).symm
    have e' : (BitVec.ofNat 32 (k : ℕ) == BitVec.ofNat 32 (j : ℕ)) = false := by simpa using g
    simp only [IntOp.cmpi, e']
    simp [FloatOps.uitofp]
theorem encM_apply (a : FVec Ideal S16x64x32x32 .f32) (cb : FVec Ideal S1024x64 .f32) (i : Fin 16384) (j : Fin 1024) :
    encM a cb (ix2 i j) = enc (fun i d => rows a (ix2 i d)) (fun k d => cb (ix2 k d)) i j := by
  have h : (fun j => distV (rows a) cb (ix2 i j)) = dist (fun i d => rows a (ix2 i d)) (fun k d => cb (ix2 k d)) i := funext fun j => distV_apply _ _ i j
  rw [encM, oneHotV_apply, argV_apply, h, hot_word]
  rfl

theorem hot_sum (f : Fin 1024 → EReal) : ∑ j, hot f j * hot f j = 1 := by
  rw [Finset.sum_eq_single (arg f)]
  · simp [hot]
  · intro b _ hb
    simp [hot, hb]
  · simp

/-- The encoding's power is at most one: the reference's rescaling is not taken. -/
theorem power_small (a : FVec Ideal S16x64x32x32 .f32) (cb : FVec Ideal S1024x64 .f32) : overOneV (powerV (encM a cb)) ix0 = 0#1 := by
  rw [overOneV_apply, powerV_apply]
  simp only [encM_apply, enc, hot_sum]
  have h : (∑ _i : Fin 16384, (1 : EReal)) = ((16384 : ℝ) : EReal) := by
    have s := DualReal.coe_sum (Finset.univ : Finset (Fin 16384)) fun _ => (1 : ℝ)
    rw [Finset.sum_const, Finset.card_univ, Fintype.card_fin, nsmul_eq_mul, mul_one] at s
    rw [Nat.cast_ofNat] at s
    exact s.symm
  have l : lit 0x4B800000#32 = ((16777216 : ℝ) : EReal) := by
    simp [Ideal.ofBits, Ideal.ieee, -EReal.coe_mul]
    norm_num
  have q : Ideal.sqrt (Ideal.div ((16384 : ℝ) : EReal) ((16777216 : ℝ) : EReal)) ≤ 1 := by
    have d : Ideal.div ((16384 : ℝ) : EReal) ((16777216 : ℝ) : EReal) = ((16384 / 16777216 : ℝ) : EReal) := by
      unfold Ideal.div
      rw [if_neg (by simp), ← EReal.coe_inv, ← EReal.coe_mul, div_eq_mul_inv]
    rw [d]
    show (if (16384 / 16777216 : ℝ) < 0 then (⊥ : EReal) else ((Real.sqrt (16384 / 16777216) : ℝ) : EReal)) ≤ 1
    rw [if_neg (by norm_num), ← EReal.coe_one, EReal.coe_le_coe_iff]
    exact Real.sqrt_le_one.mpr (by norm_num)
  rw [h, l]
  unfold Ideal.cmp
  simp [not_lt.mpr q]

theorem e15 : u0 V (Proc.devRef .tc main_v15) = (distV (rows (V (Proc.devRef .tc main_arg0))) (V (Proc.devRef .tc main_arg1))) := by
  exact s0_v15 V
theorem e17 : u2 V (Proc.devRef .tc main_v17) = encM (V (Proc.devRef .tc main_arg0)) (V (Proc.devRef .tc main_arg1)) := by
  rw [u2, s2_v17, u1, s1_v16, e15]
  rfl
theorem e22 : u3 V (Proc.devRef .tc main_v22) = overOneV (powerV (encM (V (Proc.devRef .tc main_arg0)) (V (Proc.devRef .tc main_arg1)))) := by
  rw [u3, s3_v22, e17]
theorem e25 : u4 V (Proc.devRef .tc main_v25) = encM (V (Proc.devRef .tc main_arg0)) (V (Proc.devRef .tc main_arg1)) := by
  rw [u4, s4_v25 _ (by rw [e22]; exact power_small ..), u3, k3 _ (by decide), e17]
theorem c1 : u4 V (Proc.devRef .tc main_arg1) = (V (Proc.devRef .tc main_arg1)) := by
  rw [u4, k4 _ (by decide), u3, k3 _ (by decide), u2, k2 _ (by decide), u1, k1 _ (by decide), u0, k0 _ (by decide)]
theorem d15 : u4 V (Proc.devRef .tc main_v15) = (distV (rows (V (Proc.devRef .tc main_arg0))) (V (Proc.devRef .tc main_arg1))) := by
  rw [u4, k4 _ (by decide), u3, k3 _ (by decide), u2, k2 _ (by decide), u1, k1 _ (by decide)]
  exact e15 V
theorem f0 : u9 V (Proc.devRef .tc main_v0) = lastCh (V (Proc.devRef .tc main_arg0)) := by
  rw [u9, k9 _ (by decide), u8, k8 _ (by decide), u7, k7 _ (by decide), u6, k6 _ (by decide), u5, k5 _ (by decide), u4, k4 _ (by decide), u3, k3 _ (by decide), u2, k2 _ (by decide), u1, k1 _ (by decide)]
  exact s0_v0 V
theorem f1 : u9 V (Proc.devRef .tc main_v1) = rows (V (Proc.devRef .tc main_arg0)) := by
  rw [u9, k9 _ (by decide), u8, k8 _ (by decide), u7, k7 _ (by decide), u6, k6 _ (by decide), u5, k5 _ (by decide), u4, k4 _ (by decide), u3, k3 _ (by decide), u2, k2 _ (by decide), u1, k1 _ (by decide)]
  exact s0_v1 V
theorem f25 : u9 V (Proc.devRef .tc main_v25) = encM (V (Proc.devRef .tc main_arg0)) (V (Proc.devRef .tc main_arg1)) := by
  rw [u9, k9 _ (by decide), u8, k8 _ (by decide), u7, k7 _ (by decide), u6, k6 _ (by decide), u5, k5 _ (by decide)]
  exact e25 V
theorem f26 : u9 V (Proc.devRef .tc main_v26) = quantV (encM (V (Proc.devRef .tc main_arg0)) (V (Proc.devRef .tc main_arg1))) (V (Proc.devRef .tc main_arg1)) := by
  rw [u9, k9 _ (by decide), u8, k8 _ (by decide), u7, k7 _ (by decide), u6, k6 _ (by decide)]
  rw [u5, s5_v26, e25, c1]
theorem f28 : u9 V (Proc.devRef .tc main_v28) = noisyV (encM (V (Proc.devRef .tc main_arg0)) (V (Proc.devRef .tc main_arg1))) := by
  rw [u9, k9 _ (by decide), u8, k8 _ (by decide), u7, k7 _ (by decide), u6, k6 _ (by decide)]
  rw [u5, s5_v28, e25]
theorem f29 : u9 V (Proc.devRef .tc main_v29) = quantV (noisyV (encM (V (Proc.devRef .tc main_arg0)) (V (Proc.devRef .tc main_arg1)))) (V (Proc.devRef .tc main_arg1)) := by
  rw [u9, k9 _ (by decide), u8, k8 _ (by decide), u7, k7 _ (by decide), u6, k6 _ (by decide)]
  rw [u5, s5_v29, e25, c1]
theorem e55 : u8 V (Proc.devRef .tc main_v55) = weightM (V (Proc.devRef .tc main_arg0)) (V (Proc.devRef .tc main_arg1)) := by
  rw [u8, k8 _ (by decide), u7, s7_v55, u6, s6_v52 _ (by rw [u5, s5_cst]), u5, s5_v51, e25, d15]
  rfl
theorem e56 : u8 V (Proc.devRef .tc main_v56) = numV := by
  rw [u8, k8 _ (by decide), u7, s7_v56]
theorem e64 : u8 V (Proc.devRef .tc main_v64) = bellV := by
  rw [u8, k8 _ (by decide), u7, s7_v64]
theorem e66 : u8 V (Proc.devRef .tc main_v66) = clipSumV bellSumV := by
  rw [u8, s8_v66 _ (by rw [u7, s7_cst]), u7, s7_v65]
theorem f55 : u9 V (Proc.devRef .tc main_v55) = weightM (V (Proc.devRef .tc main_arg0)) (V (Proc.devRef .tc main_arg1)) := by
  rw [u9, k9 _ (by decide)]
  exact e55 V
theorem f68 : u9 V (Proc.devRef .tc main_v68) = targetM := by
  rw [u9, s9_v68, e64, e66]
  rfl
theorem f74 : u9 V (Proc.devRef .tc main_v74) = distancesV numV := by
  rw [u9, s9_v74, e56]
theorem f76_0 : u9 V (Proc.devRef .tc main_v76_0) = weightM (V (Proc.devRef .tc main_arg0)) (V (Proc.devRef .tc main_arg1)) := by
  rw [u9, s9_v76_0, e55]
theorem f76_1 : u9 V (Proc.devRef .tc main_v76_1) = targetM := by
  rw [u9, s9_v76_1, e64, e66]
  rfl
theorem f76_2 : u9 V (Proc.devRef .tc main_v76_2) = distancesV numV := by
  rw [u9, s9_v76_2, e56]
theorem f76_5 : u9 V (Proc.devRef .tc main_v76_5) = zeroV := by
  rw [u9, s9_v76_5]

end Cert.Proof.RefEntry
-- ==== Proof.RefFinal.lean ====
/-
  The reference's results, of its arguments.
-/
module

public import proofs.«01_k».proof.Proof.Gen.ReferenceIdeal.Run
public import proofs.«01_k».proof.Proof.Spec
public import Idealize.ShloMosaic.Lib.Pointwise
public import proofs.«01_k».proof.Proof.RefPost
public import proofs.«01_k».proof.Proof.RefEntry

@[expose] public section

set_option maxRecDepth 16384

noncomputable section

namespace Cert.Proof.RefFinal

open Idealize.ShloMosaic Idealize.ShloMosaic.TcCoe Idealize.ShloMosaic.StableHlo Idealize.SL.Sem
open Cert.ReferenceIdeal Cert.ReferenceIdeal.Gen Cert.ReferenceIdeal.Value
open Cert.Proof.Spec Cert.Proof.FirstMin
open Cert.Proof.RefDist Cert.Proof.RefEnc Cert.Proof.RefSoft Cert.Proof.RefHist Cert.Proof.RefLoop Cert.Proof.RefPost Cert.Proof.RefEntry

variable (m : (ℓ : Loc nD τ sig) → Buf (Elt Ideal) ℓ) (c : Dev nD)

/-- A buffer that the loop's body leaves alone keeps its contents through every trip. -/
theorem loop_keep (b : Ref sig .tc) (h : ∀ V : Valuation τ sig (Elt Ideal), afterL bodyI (after condOps V) (Proc.devRef .tc b) = V (Proc.devRef .tc b)) (k : ℕ) :
    atTrip condOps bodyI (entryContents preI m) k c (Proc.devRef .tc b) = entryContents preI m c (Proc.devRef .tc b) := by
  induction k with
  | zero => rfl
  | succ k ih => rw [atTrip_succ]; exact (h _).trans ih

/-- The contents at the loop's entry are those after the last stretch. -/
theorem entry_eq : entryContents preI m c = u9 (launchContents m c) := rfl

/-- The arguments. -/
def b0 : FVec Ideal S16x64x32x32 .f32 := m ((c.tc : Thread nD τ).loc main_arg0)
def b1 : FVec Ideal S1024x64 .f32 := m ((c.tc : Thread nD τ).loc main_arg1)

theorem keep_v0 (V : Valuation τ sig (Elt Ideal)) : afterL bodyI (after condOps V) (Proc.devRef .tc main_v0) = V (Proc.devRef .tc main_v0) := by
  simp only [bodyI, afterL_cons, afterL_nil]
  after_reads_simp
theorem at_v0 : atK m 10 c (Proc.devRef .tc main_v0) = u9 (launchContents m c) (Proc.devRef .tc main_v0) := loop_keep m c main_v0 keep_v0 10
theorem keep_v1 (V : Valuation τ sig (Elt Ideal)) : afterL bodyI (after condOps V) (Proc.devRef .tc main_v1) = V (Proc.devRef .tc main_v1) := by
  simp only [bodyI, afterL_cons, afterL_nil]
  after_reads_simp
theorem at_v1 : atK m 10 c (Proc.devRef .tc main_v1) = u9 (launchContents m c) (Proc.devRef .tc main_v1) := loop_keep m c main_v1 keep_v1 10
theorem keep_v25 (V : Valuation τ sig (Elt Ideal)) : afterL bodyI (after condOps V) (Proc.devRef .tc main_v25) = V (Proc.devRef .tc main_v25) := by
  simp only [bodyI, afterL_cons, afterL_nil]
  after_reads_simp
theorem at_v25 : atK m 10 c (Proc.devRef .tc main_v25) = u9 (launchContents m c) (Proc.devRef .tc main_v25) := loop_keep m c main_v25 keep_v25 10
theorem keep_v26 (V : Valuation τ sig (Elt Ideal)) : afterL bodyI (after condOps V) (Proc.devRef .tc main_v26) = V (Proc.devRef .tc main_v26) := by
  simp only [bodyI, afterL_cons, afterL_nil]
  after_reads_simp
theorem at_v26 : atK m 10 c (Proc.devRef .tc main_v26) = u9 (launchContents m c) (Proc.devRef .tc main_v26) := loop_keep m c main_v26 keep_v26 10
theorem keep_v28 (V : Valuation τ sig (Elt Ideal)) : afterL bodyI (after condOps V) (Proc.devRef .tc main_v28) = V (Proc.devRef .tc main_v28) := by
  simp only [bodyI, afterL_cons, afterL_nil]
  after_reads_simp
theorem at_v28 : atK m 10 c (Proc.devRef .tc main_v28) = u9 (launchContents m c) (Proc.devRef .tc main_v28) := loop_keep m c main_v28 keep_v28 10
theorem keep_v29 (V : Valuation τ sig (Elt Ideal)) : afterL bodyI (after condOps V) (Proc.devRef .tc main_v29) = V (Proc.devRef .tc main_v29) := by
  simp only [bodyI, afterL_cons, afterL_nil]
  after_reads_simp
theorem at_v29 : atK m 10 c (Proc.devRef .tc main_v29) = u9 (launchContents m c) (Proc.devRef .tc main_v29) := loop_keep m c main_v29 keep_v29 10
theorem keep_v55 (V : Valuation τ sig (Elt Ideal)) : afterL bodyI (after condOps V) (Proc.devRef .tc main_v55) = V (Proc.devRef .tc main_v55) := by
  simp only [bodyI, afterL_cons, afterL_nil]
  after_reads_simp
theorem at_v55 : atK m 10 c (Proc.devRef .tc main_v55) = u9 (launchContents m c) (Proc.devRef .tc main_v55) := loop_keep m c main_v55 keep_v55 10
theorem keep_v68 (V : Valuation τ sig (Elt Ideal)) : afterL bodyI (after condOps V) (Proc.devRef .tc main_v68) = V (Proc.devRef .tc main_v68) := by
  simp only [bodyI, afterL_cons, afterL_nil]
  after_reads_simp
theorem at_v68 : atK m 10 c (Proc.devRef .tc main_v68) = u9 (launchContents m c) (Proc.devRef .tc main_v68) := loop_keep m c main_v68 keep_v68 10
theorem keep_v74 (V : Valuation τ sig (Elt Ideal)) : afterL bodyI (after condOps V) (Proc.devRef .tc main_v74) = V (Proc.devRef .tc main_v74) := by
  simp only [bodyI, afterL_cons, afterL_nil]
  after_reads_simp
theorem at_v74 : atK m 10 c (Proc.devRef .tc main_v74) = u9 (launchContents m c) (Proc.devRef .tc main_v74) := loop_keep m c main_v74 keep_v74 10

/-- The dual variable after the loop. -/
theorem at_v76_5 : atK m 10 c (Proc.devRef .tc main_v76_5) = dualV (weightM (b0 m c) (b1 m c)) targetM (distancesV numV) zeroV 10 := by
  refine (atK_agree m c 10 main_v76_5 (by decide)).trans ?_
  rw [entry_eq, (step_iter _ 10).2.2.2, f76_0, f76_1, f76_2, f76_5]
  rfl

theorem fin_v136 : finalContents condOps preI bodyI postI 10 m c (Proc.devRef .tc main_v136) = outV (lastCh (b0 m c)) (quantV (noisyV (encM (b0 m c) (b1 m c))) (b1 m c)) := by
  refine (post_v136 (atK m 10 c)).trans ?_
  rw [at_v0, at_v29, f0, f29]
  rfl
theorem fin_v122 : finalContents condOps preI bodyI postI 10 m c (Proc.devRef .tc main_v122) = lossV (quantV (encM (b0 m c) (b1 m c)) (b1 m c)) (rows (b0 m c))
    (weightM (b0 m c) (b1 m c)) targetM (distancesV numV) (dualV (weightM (b0 m c) (b1 m c)) targetM (distancesV numV) zeroV 10) := by
  refine (post_v122 (atK m 10 c)).trans ?_
  rw [at_v26, at_v1, at_v55, at_v68, at_v74, at_v76_5, f26, f1, f55, f68, f74]
  rfl
theorem fin_v135 : finalContents condOps preI bodyI postI 10 m c (Proc.devRef .tc main_v135) = perpV (probsV (encM (b0 m c) (b1 m c))) := by
  refine (post_v135 (atK m 10 c)).trans ?_
  rw [at_v25, f25]
  rfl
theorem fin_v128 : finalContents condOps preI bodyI postI 10 m c (Proc.devRef .tc main_v128) = probsV (encM (b0 m c) (b1 m c)) := by
  refine (post_v128 (atK m 10 c)).trans ?_
  rw [at_v25, f25]
  rfl
theorem fin_v25 : finalContents condOps preI bodyI postI 10 m c (Proc.devRef .tc main_v25) = encM (b0 m c) (b1 m c) := by
  refine (post_v25 (atK m 10 c)).trans ?_
  rw [at_v25, f25]
  rfl
theorem fin_v28 : finalContents condOps preI bodyI postI 10 m c (Proc.devRef .tc main_v28) = noisyV (encM (b0 m c) (b1 m c)) := by
  refine (post_v28 (atK m 10 c)).trans ?_
  rw [at_v28, f28]
  rfl
theorem fin_v68 : finalContents condOps preI bodyI postI 10 m c (Proc.devRef .tc main_v68) = targetM := by
  refine (post_v68 (atK m 10 c)).trans ?_
  rw [at_v68, f68]

end Cert.Proof.RefFinal
-- ==== Proof.Equal.lean ====
/-
  The numbers the two programs compute in different ways, and that they are equal.
-/
module

public import proofs.«01_k».proof.Proof.Spec
public import proofs.«01_k».proof.Proof.Dual
public import proofs.«01_k».proof.Proof.DualReal
public import proofs.«01_k».proof.Proof.KerPay1

@[expose] public section

set_option maxRecDepth 16384

noncomputable section

namespace Cert.Proof.Equal

open Idealize.ShloMosaic
open Cert.Proof.Spec Cert.Proof.FirstMin Cert.Proof.Dual Cert.Proof.DualReal

/-- The kernel's named constant is the reciprocal of the reference's smoothing. -/
theorem inv_eq : KerPay1.inv = rinv := rfl

theorem lit_rows : lit 0x46800000#32 = ((16384 : ℝ) : EReal) := by
  simp [Ideal.ofBits, Ideal.ieee, -EReal.coe_mul]
  try norm_num
theorem lit_share : lit 0x38800000#32 = ((1 / 16384 : ℝ) : EReal) := by
  simp [Ideal.ofBits, Ideal.ieee, -EReal.coe_mul]
  try norm_num
theorem lit_two : lit 0x40000000#32 = ((2 : ℝ) : EReal) := by
  simp [Ideal.ofBits, Ideal.ieee, -EReal.coe_mul]
  try norm_num
theorem lit_half_neg : IsReal (lit 0xBF000000#32) := ⟨-(1 / 2), by
  simp [Ideal.ofBits, Ideal.ieee, -EReal.coe_mul]
  try norm_num⟩
theorem lit_mid : IsReal (lit 0x43FFC000#32) := ⟨1023 / 2, by
  simp [Ideal.ofBits, Ideal.ieee, -EReal.coe_mul]
  try norm_num⟩
theorem lit_width : IsPos (lit 0x432AAAAB#32) := ⟨11184811 / 65536, by norm_num, by
  simp [Ideal.ofBits, Ideal.ieee, -EReal.coe_mul]
  try norm_num⟩

theorem rows_pos : IsPos (lit 0x46800000#32) := ⟨16384, by norm_num, lit_rows⟩

/-- Multiplying by 2⁻¹⁴ is dividing by 16384, whatever the number. -/
theorem share_eq (x : EReal) : x * lit 0x38800000#32 = Ideal.div x (lit 0x46800000#32) := by
  rw [lit_rows, lit_share]
  unfold Ideal.div
  rw [if_neg (by simp), ← EReal.coe_inv, one_div]

theorem exp_neg (x : EReal) : Ideal.exp (0 - x) = Ideal.exp (-x) := by
  rw [sub_eq_add_neg, zero_add]

theorem hot_real (f : Fin 1024 → EReal) (j : Fin 1024) : IsReal (hot f j) := by
  unfold hot
  split
  · exact ⟨1, rfl⟩
  · exact ⟨0, rfl⟩
theorem probs_real (X : Fin 16384 → Fin 64 → EReal) (C : Fin 1024 → Fin 64 → EReal) (j : Fin 1024) : IsReal (probs (enc X C) j) :=
  (IsReal.sum _ fun i => hot_real _ j).div rows_pos

theorem bell_pos (j : Fin 1024) : IsPos (bell j) := by
  have hn : IsReal (num j) := ⟨_, num_eq j⟩
  have hd : IsReal (Ideal.div (num j - lit 0x43FFC000#32) (lit 0x432AAAAB#32)) := (hn.sub lit_mid).div lit_width
  exact IsPos.exp (lit_half_neg.mul (hd.mul hd))
theorem target_real (j : Fin 1024) : IsReal (target j) := by
  refine (bell_pos j).real.div ?_
  exact clip_pos (p := fun _ => ∑ k, bell k) (fun _ => (IsPos.sum bell_pos).real) j

/-- A real number taken from itself adds nothing. -/
theorem cancel (x : EReal) {y : EReal} (h : IsReal y) : x + (y - y) = x := by
  obtain ⟨r, rfl⟩ := h
  rw [← EReal.coe_sub, sub_self, EReal.coe_zero, add_zero]

/-- The logarithm of the target, clipped. -/
theorem logClip_real (j : Fin 1024) : IsReal (Ideal.log (clip (norm target) j)) :=
  IsReal.log (clip_pos (fun k => (norm_pos target_real k).real) j)

/-- The dual variables, and the objectives of them. -/
theorem dual_eq {p : Fin 1024 → EReal} (hp : ∀ j, IsReal (p j)) :
    (fun φ => kStep (norm (norm p)) (norm target) (fun k => Ideal.log (clip (norm target) k)) φ KerPay1.inv)^[10] (fun _ => 0)
        = (rStep (norm (norm p)) (norm target) fun k => Ideal.log (clip (norm target) k))^[10] (fun _ => 0)
      ∧ ∀ j, IsReal ((rStep (norm (norm p)) (norm target) fun k => Ideal.log (clip (norm target) k))^[10] (fun _ => 0) j) := by
  rw [inv_eq]
  exact iter_eq logClip_real (fun j => (norm_pos (fun k => (norm_pos hp k).real) j).real) (fun j => (norm_pos target_real j).real)
    (fun _ => ⟨0, rfl⟩) 10
theorem obj_same {p φ : Fin 1024 → EReal} (hφ : ∀ j, IsReal (φ j)) :
    kObj (kMat (fun k => Ideal.log (clip (norm target) k)) φ KerPay1.inv) (norm (norm p)) (norm target) φ
      = rObj (rMat (fun k => Ideal.log (clip (norm target) k)) φ) (norm (norm p)) (norm target) φ := by
  rw [inv_eq, mat_eq logClip_real hφ, obj_eq]

end Cert.Proof.Equal

end
-- ==== Proof.Infinite.lean ====
/-
  What is infinite in the arguments doesn't set the two losses apart. Where the softmax of a row is no longer a table of real numbers,
  the row or its nearest code holds an infinity, and the squared error, and with it the loss, is infinite in both programs.
-/
module

public import proofs.«01_k».proof.Proof.Equal

@[expose] public section

set_option maxRecDepth 16384

noncomputable section

namespace Cert.Proof.Infinite

open Idealize.ShloMosaic
open Cert.Proof.Spec Cert.Proof.FirstMin Cert.Proof.Dual Cert.Proof.DualReal

variable (D : Fin 16384 → Fin 1024 → EReal) (X : Fin 16384 → Fin 64 → EReal) (C : Fin 1024 → Fin 64 → EReal)

theorem top_not : ¬ IsReal ⊤ := fun ⟨r, h⟩ => EReal.coe_ne_top r h.symm
theorem bot_not : ¬ IsReal ⊥ := fun ⟨r, h⟩ => EReal.coe_ne_bot r h.symm

/-- The largest entry of the row the softmax takes is the nearest code's. -/
theorem over_half (x : EReal) : Ideal.div x (lit 0x3F000000#32) = x * ((2 : ℝ) : EReal) := by
  rw [lit_half]
  unfold Ideal.div
  rw [if_neg (by simp), ← EReal.coe_inv]
  norm_num
theorem soft_le {i : Fin 16384} {j k : Fin 1024} (h : D i j ≤ D i k) : soft D i k ≤ soft D i j := by
  unfold soft
  rw [over_half, over_half]
  exact mul_le_mul_of_nonneg_right (EReal.neg_le_neg_iff.mpr h) (by exact_mod_cast (by norm_num : (0 : ℝ) ≤ 2))
theorem softMax_eq (i : Fin 16384) : softMax D i = soft D i (arg (D i)) := by
  unfold softMax
  rw [lit_bot, max_eq_right bot_le]
  apply le_antisymm
  · exact (Finset.fold_max_le _).mpr ⟨bot_le, fun j _ => soft_le D ((isFirst_arg (D i)).1 j)⟩
  · exact (Finset.le_fold_max _).mpr (Or.inr ⟨_, Finset.mem_univ _, le_rfl⟩)

/-- Where every row's largest entry is real, so is the mean of the softmax: an infinite distance has the exponential zero. -/
theorem exp_nonneg {D : Fin 16384 → Fin 1024 → EReal} (h : ∀ i, IsReal (softMax D i)) (i : Fin 16384) (k : Fin 1024) :
    ∃ r : ℝ, 0 ≤ r ∧ Ideal.exp (soft D i k - softMax D i) = (r : EReal) := by
  obtain ⟨s, hs⟩ := h i
  have hle : soft D i k ≤ (s : EReal) := by
    rw [← hs, softMax_eq]
    exact soft_le D ((isFirst_arg _).1 k)
  rw [hs]
  generalize soft D i k = x at hle ⊢
  induction x using EReal.rec with
  | bot => exact ⟨0, le_rfl, by rw [EReal.bot_sub]; rfl⟩
  | top => simp at hle
  | coe a =>
    rw [← EReal.coe_sub]
    exact ⟨Real.exp (a - s), (Real.exp_pos _).le, rfl⟩
theorem expSum_pos {D : Fin 16384 → Fin 1024 → EReal} (h : ∀ i, IsReal (softMax D i)) (i : Fin 16384) :
    IsPos (∑ k, Ideal.exp (soft D i k - softMax D i)) := by
  choose r hr he using exp_nonneg h i
  have one : r (arg (D i)) = 1 := by
    have g := he (arg (D i))
    obtain ⟨s, hs⟩ := h i
    rw [← softMax_eq D i, hs, ← EReal.coe_sub, sub_self] at g
    have g' : ((Real.exp 0 : ℝ) : EReal) = (r (arg (D i)) : EReal) := g
    rw [Real.exp_zero] at g'
    exact (EReal.coe_injective g').symm
  refine ⟨∑ k, r k, ?_, by rw [coe_sum]; exact Finset.sum_congr rfl fun k _ => he k⟩
  have le : r (arg (D i)) ≤ ∑ k, r k := Finset.single_le_sum (fun k _ => hr k) (Finset.mem_univ _)
  rw [one] at le
  exact lt_of_lt_of_le one_pos le
theorem softMean_real {D : Fin 16384 → Fin 1024 → EReal} (h : ∀ i, IsReal (softMax D i)) (j : Fin 1024) : IsReal (softMean D j) := by
  refine IsReal.div (IsReal.sum _ fun i => IsReal.div ?_ (expSum_pos h i)) Equal.rows_pos
  obtain ⟨r, -, hr⟩ := exp_nonneg h i j
  exact ⟨r, hr⟩

/-- A row of the quantized table is its nearest code. -/
theorem quant_code (i : Fin 16384) (d : Fin 64) : quant (enc X C) C i d = C (arg (Spec.dist X C i)) d := by
  unfold quant
  rw [Finset.sum_eq_single (arg (Spec.dist X C i))]
  · simp [enc, hot]
  · intro b _ hb
    simp [enc, hot, hb]
  · simp

theorem sq_nonneg (x : EReal) : 0 ≤ x * x := by
  induction x using EReal.rec with
  | bot => simp
  | top => simp
  | coe a =>
    rw [← EReal.coe_mul]
    exact_mod_cast mul_self_nonneg a
theorem sq_top {x : EReal} (h : ¬ IsReal x) : x * x = ⊤ := by
  induction x using EReal.rec with
  | bot => exact EReal.bot_mul_bot
  | top => exact EReal.top_mul_top
  | coe a => exact absurd ⟨a, rfl⟩ h
theorem parts_real {x y : EReal} (h : IsReal (x - y)) : IsReal x ∧ IsReal y := by
  induction x using EReal.rec with
  | bot => exact absurd (by rwa [EReal.bot_sub] at h) bot_not
  | top =>
    induction y using EReal.rec with
    | bot => exact absurd h top_not
    | top => exact absurd h bot_not
    | coe b => exact absurd h top_not
  | coe a =>
    induction y using EReal.rec with
    | bot => exact absurd h top_not
    | top => exact absurd h bot_not
    | coe b => exact ⟨⟨a, rfl⟩, ⟨b, rfl⟩⟩

/-- Where a row's largest entry isn't real, the squared error is infinite. -/
theorem err_top {i : Fin 16384} (h : ¬ IsReal (softMax (Spec.dist X C) i)) : err (quant (enc X C) C) X = ⊤ := by
  have e : ∃ d, ¬ IsReal (quant (enc X C) C i d - X i d) := by
    by_contra hn
    have hn : ∀ d, IsReal (quant (enc X C) C i d - X i d) := fun d => by_contra fun g => hn ⟨d, g⟩
    refine h ?_
    rw [softMax_eq]
    have hC : ∀ d, IsReal (C (arg (Spec.dist X C i)) d) := fun d => by
      rw [← quant_code X C]
      exact (parts_real (hn d)).1
    have hX : ∀ d, IsReal (X i d) := fun d => (parts_real (hn d)).2
    refine IsReal.div (IsReal.neg ?_) ⟨1 / 2, by norm_num, lit_half⟩
    exact ((IsReal.sum _ fun d => (hX d).mul (hX d)).add (IsReal.sum _ fun d => (hC d).mul (hC d))).sub
      (IsReal.mul ⟨2, Equal.lit_two⟩ (IsReal.sum _ fun d => (hX d).mul (hC d)))
  obtain ⟨d, hd⟩ := e
  refine top_le_iff.mp ?_
  calc (⊤ : EReal) = (quant (enc X C) C i d - X i d) * (quant (enc X C) C i d - X i d) := (sq_top hd).symm
    _ ≤ ∑ d, (quant (enc X C) C i d - X i d) * (quant (enc X C) C i d - X i d) :=
      Finset.single_le_sum (f := fun d => (quant (enc X C) C i d - X i d) * (quant (enc X C) C i d - X i d)) (fun d _ => sq_nonneg _) (Finset.mem_univ d)
    _ ≤ _ := Finset.single_le_sum (f := fun i => ∑ d, (quant (enc X C) C i d - X i d) * (quant (enc X C) C i d - X i d))
      (fun i _ => Finset.sum_nonneg fun d _ => sq_nonneg _) (Finset.mem_univ i)

/-- An infinite squared error is an infinite loss, whatever the real objective. -/
theorem loss_top {o : EReal} (h : IsReal o) : loss ⊤ o = ⊤ := by
  obtain ⟨r, rfl⟩ := h
  have l1 : lit 0x49800000#32 = ((1048576 : ℝ) : EReal) := by
    simp [Ideal.ofBits, Ideal.ieee, -EReal.coe_mul]
    try norm_num
  have l2 : lit 0x3E800000#32 = ((1 / 4 : ℝ) : EReal) := by
    simp [Ideal.ofBits, Ideal.ieee, -EReal.coe_mul]
    try norm_num
  have m : mse ⊤ = ⊤ := by
    unfold mse Ideal.div
    rw [l1, if_neg (by simp), ← EReal.coe_inv]
    exact EReal.top_mul_coe_of_pos (by norm_num)
  unfold loss
  rw [m, l2, EReal.coe_mul_top_of_pos (by norm_num)]
  rfl

/-- The objectives are real. -/
theorem obj_real {M : Fin 1024 → Fin 1024 → EReal} {src tgt φ : Fin 1024 → EReal} (hM : ∀ i j, IsReal (M i j)) (hs : ∀ j, IsReal (src j))
    (ht : ∀ j, IsReal (tgt j)) (hφ : ∀ j, IsReal (φ j)) : IsReal (kObj M src tgt φ) :=
  (IsReal.sum _ fun i => (hs i).mul (IsReal.mul ⟨_, lit_neg_eps⟩ ((rowMax_real hM i).add (IsReal.log (rowSum_pos hM i))))).add
    (IsReal.sum _ fun j => (ht j).mul (hφ j))

/-- Weights which a softmax that isn't real has been added to and taken from are clipped to real ones all the same. -/
theorem weight_clip {p s : Fin 1024 → EReal} (hp : ∀ j, IsReal (p j)) (j : Fin 1024) : IsPos (clip (fun k => p k + (s k - s k)) j) := by
  by_cases h : IsReal (s j)
  · have e : clip (fun k => p k + (s k - s k)) j = clip p j := by
      show max _ (p j + (s j - s j)) = max _ (p j)
      rw [Equal.cancel _ h]
    rw [e]
    exact clip_pos hp j
  · have b : s j - s j = ⊥ := by
      generalize s j = x at h
      induction x using EReal.rec with
      | bot => exact EReal.bot_sub _
      | top => rfl
      | coe a => exact absurd ⟨a, rfl⟩ h
    obtain ⟨r, hr, hl⟩ := lit_clip
    refine ⟨r, hr, ?_⟩
    show max _ (p j + (s j - s j)) = _
    rw [b, EReal.add_bot, max_eq_left bot_le, hl]
theorem weight_real {p s : Fin 1024 → EReal} (hp : ∀ j, IsReal (p j)) (j : Fin 1024) : IsReal (norm (fun k => p k + (s k - s k)) j) :=
  ((weight_clip hp j).div (IsPos.sum (weight_clip hp))).real

/-- The reference's objective of any real weights is real. -/
theorem ref_real {w : Fin 1024 → EReal} (hw : ∀ j, IsReal (w j)) :
    IsReal (rObj (rMat (fun k => Ideal.log (clip (norm target) k)) ((rStep (norm w) (norm target) fun k => Ideal.log (clip (norm target) k))^[10] fun _ => 0))
      (norm w) (norm target) ((rStep (norm w) (norm target) fun k => Ideal.log (clip (norm target) k))^[10] fun _ => 0)) := by
  have hs : ∀ j, IsReal (norm w j) := fun j => (norm_pos hw j).real
  have ht : ∀ j, IsReal (norm target j) := fun j => (norm_pos Equal.target_real j).real
  have hφ := (iter_eq (φ := fun _ => 0) Equal.logClip_real hs ht (fun _ => ⟨0, rfl⟩) 10).2
  rw [← obj_eq]
  exact obj_real (mat_real Equal.logClip_real hφ) hs ht hφ

end Cert.Proof.Infinite

end
-- ==== Proof.Bridge.lean ====
/-
  The kernel's results are the reference's, from memories that agree on the arguments.
-/
module

public import proofs.«01_k».proof.Proof.KerFinal
public import proofs.«01_k».proof.Proof.RefFinal
public import proofs.«01_k».proof.Proof.Equal
public import proofs.«01_k».proof.Proof.Infinite

@[expose] public section

set_option maxRecDepth 16384

noncomputable section

namespace Cert.Proof.Bridge

open Idealize.ShloMosaic
open Cert.Proof.Spec Cert.Proof.Dual Cert.Proof.DualReal

abbrev Inp := FVec Ideal Cert.ReferenceIdeal.S16x64x32x32 .f32
abbrev Book := FVec Ideal Cert.ReferenceIdeal.S1024x64 .f32

variable (a : Inp) (cb : Book)

/-- The rows and codes both programs work on. -/
def X (i : Fin 16384) (d : Fin 64) : EReal := RefDist.rows a (ix2 i d)
def C (k : Fin 1024) (d : Fin 64) : EReal := cb (ix2 k d)

theorem last_eq : KerFinal.lastK a = RefDist.lastCh a := rfl
theorem rows_eq : KerFinal.rowsK a = RefDist.rows a := rfl
theorem out_eq (x : FVec Ideal Cert.ReferenceIdeal.S16x32x32x64 .f32) (q : FVec Ideal Cert.ReferenceIdeal.S16384x64 .f32) :
    KerFinal.outK x q = RefPost.outV x q := rfl

/-- The reference's tables, entry by entry. -/
theorem enc_at (i : Fin 16384) (j : Fin 1024) : RefEntry.encM a cb (ix2 i j) = enc (X a) (C cb) i j := RefEntry.encM_apply a cb i j
theorem quant_at (i : Fin 16384) (d : Fin 64) : RefHist.quantV (RefEntry.encM a cb) cb (ix2 i d) = quant (enc (X a) (C cb)) (C cb) i d := by
  rw [RefHist.quantV_apply]
  simp only [enc_at]
  rfl
theorem probs_at (j : Fin 1024) : RefSoft.probsV (RefEntry.encM a cb) (ix1 j) = probs (enc (X a) (C cb)) j := by
  rw [RefSoft.probsV_apply]
  simp only [enc_at]
theorem target_at (j : Fin 1024) : RefEntry.targetM (ix1 j) = target j := RefHist.target_apply j

/-- The reference's weights: the distribution with the mean of the softmax added to it and taken away again. -/
def mixed (j : Fin 1024) : EReal :=
  probs (enc (X a) (C cb)) j + (softMean (Spec.dist (X a) (C cb)) j - softMean (Spec.dist (X a) (C cb)) j)
theorem weight_at (j : Fin 1024) : RefEntry.weightM a cb (ix1 j) = norm (mixed a cb) j := by
  have hD : (fun i k => RefDist.distV (RefDist.rows a) cb (ix2 i k)) = Spec.dist (X a) (C cb) := by
    funext i k
    exact RefDist.distV_apply _ _ i k
  have hw : (fun k => RefSoft.weightV (RefEntry.encM a cb) (RefDist.distV (RefDist.rows a) cb) (ix1 k)) = mixed a cb := by
    funext k
    rw [RefSoft.weightV_apply, hD]
    simp only [enc_at]
    rfl
  rw [RefEntry.weightM, RefLoop.overClip_apply, hw]

/-- The objective the reference takes of weights, and the kernel's. -/
def refObj (w : Fin 1024 → EReal) : EReal :=
  rObj (rMat KerArr1.lt ((rStep (norm w) (norm target) KerArr1.lt)^[10] fun _ => 0)) (norm w) (norm target)
    ((rStep (norm w) (norm target) KerArr1.lt)^[10] fun _ => 0)
def kerObj (w : Fin 1024 → EReal) : EReal :=
  kObj (kMat KerArr1.lt ((fun φ => kStep (norm w) (norm target) KerArr1.lt φ KerPay1.inv)^[10] fun _ => 0) KerPay1.inv) (norm w) (norm target)
    ((fun φ => kStep (norm w) (norm target) KerArr1.lt φ KerPay1.inv)^[10] fun _ => 0)
theorem obj_same {p : Fin 1024 → EReal} (hp : ∀ j, IsReal (p j)) : kerObj (norm p) = refObj (norm p) := by
  have hd := Equal.dual_eq hp
  have hl : KerArr1.lt = fun k => Ideal.log (clip (norm target) k) := rfl
  unfold kerObj refObj
  rw [hl, hd.1, Equal.obj_same hd.2]
theorem obj_real {w : Fin 1024 → EReal} (hw : ∀ j, IsReal (w j)) : IsReal (refObj w) := Infinite.ref_real hw

/-- The reference's loss, entry by entry, and that it is the kernel's. -/
theorem loss_at :
    RefPost.lossV (RefHist.quantV (RefEntry.encM a cb) cb) (RefDist.rows a) (RefEntry.weightM a cb) RefEntry.targetM (RefHist.distancesV RefHist.numV)
        (RefLoop.dualV (RefEntry.weightM a cb) RefEntry.targetM (RefHist.distancesV RefHist.numV) RefHist.zeroV 10) ix0
      = loss (err (quant (enc (X a) (C cb)) (C cb)) (X a)) (refObj (norm (mixed a cb))) := by
  have hW : (fun k => RefEntry.weightM a cb (ix1 k)) = norm (mixed a cb) := funext (weight_at a cb)
  have hT : (fun k => RefEntry.targetM (ix1 k)) = target := funext target_at
  have hZ : (fun k => RefHist.zeroV (ix1 k)) = fun _ : Fin 1024 => (0 : EReal) := funext RefHist.zeroV_apply
  have hφ : (fun j => RefLoop.dualV (RefEntry.weightM a cb) RefEntry.targetM (RefHist.distancesV RefHist.numV) RefHist.zeroV 10 (ix1 j))
      = (rStep (norm (norm (mixed a cb))) (norm target) KerArr1.lt)^[10] fun _ => 0 := by
    funext j
    rw [RefLoop.dualV_apply, hW, hT, hZ]
    rfl
  rw [RefPost.lossV_apply, hφ, hW, hT]
  simp only [quant_at]
  rfl
theorem loss_same : loss (err (quant (enc (X a) (C cb)) (C cb)) (X a)) (refObj (norm (mixed a cb)))
    = loss (err (quant (enc (X a) (C cb)) (C cb)) (X a)) (kerObj (norm (probs (enc (X a) (C cb))))) := by
  have hp := Equal.probs_real (X a) (C cb)
  rw [obj_same hp]
  by_cases h : ∀ i, IsReal (softMax (Spec.dist (X a) (C cb)) i)
  · have e : mixed a cb = probs (enc (X a) (C cb)) := funext fun k => Equal.cancel _ (Infinite.softMean_real h k)
    rw [e]
  · obtain ⟨i, hi⟩ := not_forall.mp h
    have hm : IsReal (refObj (norm (mixed a cb))) := obj_real (Infinite.weight_real hp)
    rw [Infinite.err_top _ _ hi, Infinite.loss_top hm, Infinite.loss_top (obj_real fun k => (norm_pos hp k).real)]

end Cert.Proof.Bridge

end
-- ==== Proof.Meet.lean ====
/-
  The two programs end with the same results.
-/
module

public import proofs.«01_k».proof.Proof.Bridge
public import proofs.«01_k».proof.Proof.KerRun
public import proofs.«01_k».proof.Proof.RefRun

@[expose] public section

set_option maxRecDepth 16384

noncomputable section

namespace Cert.Proof.Meet

open Idealize.ShloMosaic Idealize.ShloMosaic.TcCoe Idealize.ShloMosaic.StableHlo Idealize.SL.Sem
open Cert.ReferenceIdeal.Gen Cert.ReferenceIdeal.Value
open Cert.Proof.Spec Cert.Proof.Dual Cert.Proof.DualReal

variable (m : (ℓ : Loc Cert.KernelIdeal.nD Cert.KernelIdeal.τ Cert.KernelIdeal.sig) → Buf (Elt Ideal) ℓ) (ρ : Dev Cert.KernelIdeal.nD → PrngReg)
variable (m' : (ℓ : Loc Cert.ReferenceIdeal.nD Cert.ReferenceIdeal.τ Cert.ReferenceIdeal.sig) → Buf (Elt Ideal) ℓ)
variable (c : Dev Cert.KernelIdeal.nD)

/-- What a buffer of either program ends with. -/
abbrev ker (b : Ref Cert.KernelIdeal.sig .tc) := Cert.KernelIdeal.Gen.W5 m ρ c (Proc.devRef .tc b)
abbrev ref (b : Ref Cert.ReferenceIdeal.sig .tc) := finalContents condOps preI bodyI postI 10 m' c (Proc.devRef .tc b)

variable {m m' c}
variable (h0 : RefFinal.b0 m' c = KerFinal.a0 m c) (h1 : RefFinal.b1 m' c = KerFinal.a1 m c)

/-- The kernel's rows and codes, and its distribution, in the reference's terms. -/
theorem X_eq : KerFinal.X m c = Bridge.X (KerFinal.a0 m c) := rfl
theorem C_eq : KerFinal.C m c = Bridge.C (KerFinal.a1 m c) := rfl
theorem prob_eq : KerFinal.prob m c = probs (enc (Bridge.X (KerFinal.a0 m c)) (Bridge.C (KerFinal.a1 m c))) := by
  funext j
  exact Equal.share_eq _

theorem enc_eq : RefEntry.encM (KerFinal.a0 m c) (KerFinal.a1 m c) = KerFinal.encR m c := by
  funext y
  obtain ⟨i, j, rfl⟩ : ∃ (i : Fin 16384) (j : Fin 1024), y = ix2 i j := ⟨y 0, y 1, ValueIdx.eq_ix2 y⟩
  exact Bridge.enc_at _ _ i j
theorem quant_eq : RefHist.quantV (RefEntry.encM (KerFinal.a0 m c) (KerFinal.a1 m c)) (KerFinal.a1 m c) = KerFinal.quantR m c := by
  funext y
  obtain ⟨i, d, rfl⟩ : ∃ (i : Fin 16384) (d : Fin 64), y = ix2 i d := ⟨y 0, y 1, ValueIdx.eq_ix2 y⟩
  exact Bridge.quant_at _ _ i d

include h0 h1

theorem same_enc : ref m' c Cert.ReferenceIdeal.main_v25 = ker m ρ c Cert.KernelIdeal.main_v8_0 := by
  refine (RefFinal.fin_v25 m' c).trans ?_
  rw [h0, h1]
  exact enc_eq.trans (KerFinal.r_enc m ρ c).symm
theorem same_noisy : ref m' c Cert.ReferenceIdeal.main_v28 = ker m ρ c Cert.KernelIdeal.main_v8_0 := by
  refine (RefFinal.fin_v28 m' c).trans ?_
  rw [h0, h1, RefHist.noisyV_eq]
  exact enc_eq.trans (KerFinal.r_enc m ρ c).symm
theorem same_out : ref m' c Cert.ReferenceIdeal.main_v136 = ker m ρ c Cert.KernelIdeal.main_v14 := by
  refine (RefFinal.fin_v136 m' c).trans ?_
  rw [h0, h1, RefHist.noisyV_eq, quant_eq]
  exact (KerFinal.r_out m ρ c).symm
theorem same_probs : ref m' c Cert.ReferenceIdeal.main_v128 = ker m ρ c Cert.KernelIdeal.main_v17 := by
  refine (RefFinal.fin_v128 m' c).trans ?_
  rw [h0, h1]
  funext y
  obtain ⟨j, rfl⟩ : ∃ j : Fin 1024, y = ix1 j := ⟨y 0, ValueIdx.eq_ix1 y⟩
  exact (Bridge.probs_at _ _ j).trans ((congrFun prob_eq j).symm.trans (KerFinal.r_prob m ρ c j).symm)
theorem same_perp : ref m' c Cert.ReferenceIdeal.main_v135 = ker m ρ c Cert.KernelIdeal.main_v16 := by
  refine (RefFinal.fin_v135 m' c).trans ?_
  rw [h0, h1]
  funext y
  obtain rfl : y = ix0 := ValueIdx.eq_ix0 y
  refine (RefPost.perpV_apply _).trans (Eq.trans ?_ (KerFinal.r_perp m ρ c).symm)
  rw [Equal.exp_neg, prob_eq]
  simp only [Bridge.probs_at]

omit h0 h1 in
theorem same_target : ref m' c Cert.ReferenceIdeal.main_v68 = ker m ρ c Cert.KernelIdeal.main_v18 := by
  refine (RefFinal.fin_v68 m' c).trans ?_
  funext y
  obtain ⟨j, rfl⟩ : ∃ j : Fin 1024, y = ix1 j := ⟨y 0, ValueIdx.eq_ix1 y⟩
  exact (Bridge.target_at j).trans (KerFinal.r_tgt m ρ c j).symm

/-- The loss. -/
theorem same_loss : ref m' c Cert.ReferenceIdeal.main_v122 = ker m ρ c Cert.KernelIdeal.main_v15 := by
  refine (RefFinal.fin_v122 m' c).trans ?_
  rw [h0, h1]
  funext y
  obtain rfl : y = ix0 := ValueIdx.eq_ix0 y
  refine (Bridge.loss_at _ _).trans ((Bridge.loss_same _ _).trans (Eq.trans ?_ (KerFinal.r_loss m ρ c).symm))
  unfold KerFinal.dual
  rw [prob_eq, X_eq, C_eq]
  rfl

end Cert.Proof.Meet

end
-- ==== Proof.Post.lean ====
/-
  What two postconditions of the kernel say: the rows of the encodings are one-hot, and the histogram is a distribution.
-/
module

public import proofs.«01_k».proof.Post_one_hot
public import proofs.«01_k».proof.Post_distribution
public import proofs.«01_k».proof.Proof.Equal
public import Idealize.ShloMosaic.Lib.ReduceAll
public import Idealize.ShloMosaic.Lib.Pointwise

@[expose] public section

set_option maxRecDepth 16384

noncomputable section

namespace Cert.Proof.Post

open Idealize.ShloMosaic
open Cert.Proof.Spec Cert.Proof.FirstMin Cert.Proof.DualReal

theorem lit_zero : lit 0x00000000#32 = 0 := by simp [Ideal.ofBits, Ideal.ieee]
theorem lit_one : lit 0x3F800000#32 = 1 := Ideal.ofBits_one_f32

/-- Equal numbers compare as equal, and a number that isn't less as not less. -/
theorem cmp_eq {x y : EReal} (h : x = y) : Ideal.cmp .oeq x y = 1#1 := by simp [Ideal.cmp, h]
theorem cmp_ge {x y : EReal} (h : y ≤ x) : Ideal.cmp .oge x y = 1#1 := by simp [Ideal.cmp, h]

theorem cmp_at {s : Shape} (A B : FVec Ideal s .f32) (y : s.Idx) (w : EReal) (h : A y = w) (g : B y = w) : cmpf .oeq A B y = 1#1 :=
  cmp_eq (h.trans g.symm)

theorem hot_cases (f : Fin 1024 → EReal) (j : Fin 1024) : hot f j = 0 ∨ hot f j = 1 := by
  unfold hot
  split
  · exact Or.inr rfl
  · exact Or.inl rfl
theorem hot_total (f : Fin 1024 → EReal) : ∑ j, hot f j = 1 := by
  rw [Finset.sum_eq_single (arg f)]
  · simp [hot]
  · intro b _ hb
    simp [hot, hb]
  · simp

section OneHot
open Cert.Post_one_hot

theorem oneHotFacts : Cert.Post_one_hot.Facts where
  bcast_S_S16384x1024 := by decide
  reducesTo_S16384x1024_S_d0_1 := by decide
  h_S_ := by decide
  reducesTo_S16384x1024_S16384_d1 := by decide
  bcast_S_S16384 := by decide
  reducesTo_S16384_S_d0 := by decide

variable [Cert.Post_one_hot.Facts]
open Cert.Post_one_hot.Facts

/-- The sums over the rows. -/
def rowTotal (E : FVec Ideal S16384x1024 .f32) : FVec Ideal S16384 .f32 :=
  Host.reduceAdd E (constant S_ .f32 0x00000000#32) reducesTo_S16384x1024_S16384_d1 h_S_
theorem rowTotal_apply (E : FVec Ideal S16384x1024 .f32) (i : Fin 16384) : rowTotal E (ix1 i) = ∑ j, E (ix2 i j) := by
  pointwise [rowTotal]

theorem one_hot (a : FVec Ideal S16x64x32x32 .f32) (cb : FVec Ideal S1024x64 .f32) (q : FVec Ideal S16x64x32x32 .f32) (l p : FVec Ideal S_ .f32)
    (E N : FVec Ideal S16384x1024 .f32) (h t : FVec Ideal S1024 .f32) (f : Fin 16384 → Fin 1024 → EReal)
    (hE : ∀ i j, E (ix2 i j) = hot (f i) j) : Cert.Post_one_hot.fn (F := Ideal) a cb q l p E N h t = fun _ => 1#1 := by
  funext y
  refine IntOp.andi_eq_one.2 ⟨Host.reduce_andi_one _ _ _ _ _ rfl fun z => ?_, Host.reduce_andi_one _ _ _ _ _ rfl fun z => ?_⟩
  · obtain ⟨i, j, rfl⟩ : ∃ (i : Fin 16384) (j : Fin 1024), z = ix2 i j := ⟨z 0, z 1, ValueIdx.eq_ix2 z⟩
    refine IntOp.ori_eq_one.2 ((hot_cases (f i) j).imp (fun e => ?_) fun e => ?_)
    · exact cmp_eq ((hE i j).trans (e.trans lit_zero.symm))
    · exact cmp_eq ((hE i j).trans (e.trans lit_one.symm))
  · obtain ⟨i, rfl⟩ : ∃ i : Fin 16384, z = ix1 i := ⟨z 0, ValueIdx.eq_ix1 z⟩
    have e : rowTotal E (ix1 i) = lit 0x3F800000#32 := by
      rw [rowTotal_apply, lit_one, Finset.sum_congr rfl fun j _ => hE i j]
      exact hot_total (f i)
    have q : cmpf .oeq (rowTotal E) (broadcastInDim S16384 ![] bcast_S_S16384 (constant S_ .f32 0x3F800000#32)) (ix1 i) = 1#1 :=
      cmp_at _ _ _ _ e rfl
    exact q

end OneHot

section Distribution
open Cert.Post_distribution

theorem distributionFacts : Cert.Post_distribution.Facts where
  bcast_S_S1024 := by decide
  reducesTo_S1024_S_d0 := by decide
  h_S_ := by decide

variable [Cert.Post_distribution.Facts]
open Cert.Post_distribution.Facts

/-- The sum over the codes. -/
def total (p : FVec Ideal S1024 .f32) : FVec Ideal S_ .f32 := Host.reduceAdd p (constant S_ .f32 0x00000000#32) reducesTo_S1024_S_d0 h_S_
theorem total_apply (p : FVec Ideal S1024 .f32) : total p ix0 = ∑ j, p (ix1 j) := by
  pointwise [total]

/-- The share of the rows that take a code is a real number, and these shares sum to one. -/
def share (f : Fin 16384 → Fin 1024 → EReal) (j : Fin 1024) : ℝ := (∑ i, if j = arg (f i) then (1 : ℝ) else 0) * (1 / 16384)
theorem share_eq (f : Fin 16384 → Fin 1024 → EReal) (j : Fin 1024) : (hist (fun i => hot (f i)) j) * lit 0x38800000#32 = ((share f j : ℝ) : EReal) := by
  unfold share hist
  have h : ∑ i, hot (f i) j = ((∑ i, if j = arg (f i) then (1 : ℝ) else 0 : ℝ) : EReal) := by
    rw [coe_sum]
    refine Finset.sum_congr rfl fun i _ => ?_
    unfold hot
    split <;> rfl
  rw [Equal.lit_share, EReal.coe_mul, h]
theorem share_nonneg (f : Fin 16384 → Fin 1024 → EReal) (j : Fin 1024) : 0 ≤ share f j :=
  mul_nonneg (Finset.sum_nonneg fun i _ => by split <;> norm_num) (by norm_num)
theorem share_total (f : Fin 16384 → Fin 1024 → EReal) : ∑ j, share f j = 1 := by
  unfold share
  rw [← Finset.sum_mul, Finset.sum_comm]
  have h : ∀ i : Fin 16384, (∑ j : Fin 1024, if j = arg (f i) then (1 : ℝ) else 0) = 1 := fun i => by simp
  simp only [h, Finset.sum_const, Finset.card_univ, Fintype.card_fin, nsmul_eq_mul, mul_one]
  norm_num

theorem distribution (a : FVec Ideal S16x64x32x32 .f32) (cb : FVec Ideal S1024x64 .f32) (q : FVec Ideal S16x64x32x32 .f32) (l p : FVec Ideal S_ .f32)
    (E N : FVec Ideal S16384x1024 .f32) (h t : FVec Ideal S1024 .f32) (f : Fin 16384 → Fin 1024 → EReal)
    (hh : ∀ j, h (ix1 j) = hist (fun i => hot (f i)) j * lit 0x38800000#32) :
    Cert.Post_distribution.fn (F := Ideal) a cb q l p E N h t = fun _ => 1#1 := by
  have hs : ∀ j, h (ix1 j) = ((share f j : ℝ) : EReal) := fun j => (hh j).trans (share_eq f j)
  funext y
  refine IntOp.andi_eq_one.2 ⟨Host.reduce_andi_one _ _ _ _ _ rfl fun z => ?_, ?_⟩
  · obtain ⟨j, rfl⟩ : ∃ j : Fin 1024, z = ix1 j := ⟨z 0, ValueIdx.eq_ix1 z⟩
    refine cmp_ge ?_
    rw [hs j]
    exact lit_zero.le.trans (by exact_mod_cast share_nonneg f j)
  · obtain rfl : y = ix0 := ValueIdx.eq_ix0 y
    have e : total h ix0 = lit 0x3F800000#32 := by
      rw [total_apply, lit_one, Finset.sum_congr rfl fun j _ => hs j, ← coe_sum, share_total, EReal.coe_one]
    have q : cmpf .oeq (total h) (constant S_ .f32 0x3F800000#32) ix0 = 1#1 :=
      cmp_at _ _ _ _ e rfl
    exact q

end Distribution

end Cert.Proof.Post

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.RefRun
public import proofs.«01_k».proof.Proof.KerRun
public import proofs.«01_k».proof.Proof.Meet
public import proofs.«01_k».proof.Proof.Post
public import Idealize.ShloMosaic.Adequacy
public import Idealize.ShloMosaic.Init

@[expose] public section

noncomputable section

namespace Cert.Proof

open Idealize.ShloMosaic

/-- The named `inv_eps` is what its table says. -/
theorem preserves : Cert.preserves_Kernel_KernelIdeal :=
  IdealRules.named_const.statement Cert.KernelIdeal.κ "inv_eps" .f32 0x41A00000#32 _ rfl

open Cert.ReferenceIdeal.Value Idealize.SL.Sem in
/-- From memories that agree on the arguments the two programs end with the same seven results. -/
theorem algebraic : Cert.algebraic_KernelIdeal_ReferenceIdeal (hKernelIdeal := Cert.KernelIdeal.Gen.facts) (hReferenceIdeal := Cert.ReferenceIdeal.Gen.facts) := fun m ρ m' ρ' _ hag => by
  have h0 : ∀ c, RefFinal.b0 m' c = KerFinal.a0 m c := fun c => (hag c).1
  have h1 : ∀ c, RefFinal.b1 m' c = KerFinal.a1 m c := fun c => (hag c).2
  refine ⟨fun c => Meet.ker m ρ c Cert.KernelIdeal.main_v14, fun c => Meet.ker m ρ c Cert.KernelIdeal.main_v15,
    fun c => Meet.ker m ρ c Cert.KernelIdeal.main_v16, fun c => Meet.ker m ρ c Cert.KernelIdeal.main_v8_0,
    fun c => Meet.ker m ρ c Cert.KernelIdeal.main_v8_0, fun c => Meet.ker m ρ c Cert.KernelIdeal.main_v17,
    fun c => Meet.ker m ρ c Cert.KernelIdeal.main_v18, ?_, ?_⟩
  · refine (θ_run _ _ _).mono (fun r h c => ?_) (KerRun.run m ρ)
    obtain ⟨k0, k1, k2, k3, k5, k6, ka, kb⟩ := h c
    exact ⟨k0, k1, k2, k3, k3, k5, k6, ka, kb⟩
  · refine (θ_run _ _ _).mono (fun r h c => ?_) (run_fold m' ρ')
    exact ⟨(h c Cert.ReferenceIdeal.main_v136 rfl).trans (Meet.same_out ρ (h0 c) (h1 c)),
      (h c Cert.ReferenceIdeal.main_v122 rfl).trans (Meet.same_loss ρ (h0 c) (h1 c)),
      (h c Cert.ReferenceIdeal.main_v135 rfl).trans (Meet.same_perp ρ (h0 c) (h1 c)),
      (h c Cert.ReferenceIdeal.main_v25 rfl).trans (Meet.same_enc ρ (h0 c) (h1 c)),
      (h c Cert.ReferenceIdeal.main_v28 rfl).trans (Meet.same_noisy ρ (h0 c) (h1 c)),
      (h c Cert.ReferenceIdeal.main_v128 rfl).trans (Meet.same_probs ρ (h0 c) (h1 c)),
      (h c Cert.ReferenceIdeal.main_v68 rfl).trans (Meet.same_target ρ),
      (h c Cert.ReferenceIdeal.main_arg0 rfl).trans (RefRun.final_arg0 m' c),
      (h c Cert.ReferenceIdeal.main_arg1 rfl).trans (RefRun.final_arg1 m' c)⟩

open Idealize.SL.Sem in
/-- The rows of the kernel's encodings are one-hot. -/
theorem one_hot : Cert.holds_KernelIdeal_one_hot (hKernelIdeal := Cert.KernelIdeal.Gen.facts) (hPost_one_hot := Post.oneHotFacts) := fun m ρ _ => by
  letI := Post.oneHotFacts
  refine (θ_run _ _ _).mono (fun r h c => ?_) (KerRun.run m ρ)
  obtain ⟨-, -, -, k3, -, -, ka, kb⟩ := h c
  exact ⟨ka, kb, Post.one_hot _ _ _ _ _ _ _ _ _ (Spec.dist (KerFinal.X m c) (KerFinal.C m c))
    fun i j => congrFun (k3.trans (KerFinal.r_enc m ρ c)) (ix2 i j)⟩

open Idealize.SL.Sem in
/-- The kernel's histogram is a distribution. -/
theorem distribution : Cert.holds_KernelIdeal_distribution (hKernelIdeal := Cert.KernelIdeal.Gen.facts)
    (hPost_distribution := Post.distributionFacts) := fun m ρ _ => by
  letI := Post.distributionFacts
  refine (θ_run _ _ _).mono (fun r h c => ?_) (KerRun.run m ρ)
  obtain ⟨-, -, -, -, k5, -, ka, kb⟩ := h c
  exact ⟨ka, kb, Post.distribution _ _ _ _ _ _ _ _ _ (Spec.dist (KerFinal.X m c) (KerFinal.C m c))
    fun j => (congrFun k5 (ix1 j)).trans (KerFinal.r_prob m ρ c j)⟩

theorem claim : Cert.Claim :=
  ⟨Cert.Kernel.Gen.facts, Cert.KernelIdeal.Gen.facts, Cert.ReferenceIdeal.Gen.facts, Post.oneHotFacts, Post.distributionFacts,
    fun m ρ _ => Cert.Kernel.Gen.frame m ρ,
    fun m ρ _ => Cert.KernelIdeal.Gen.frame m ρ,
    fun m ρ _ => RefRun.frame m ρ,
    preserves, algebraic, one_hot, distribution⟩

end Cert.Proof

end
